-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S256x128
  ∧ IdealRules.bf16_pair.Statement Cert.KernelIdeal.S256x2x128 Cert.KernelIdeal.S256x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x5120 : Shape := ⟨3, ![3, 512, 5120]⟩
abbrev S5120 : Shape := ⟨1, ![5120]⟩
abbrev S3x512 : Shape := ⟨2, ![3, 512]⟩
abbrev S5120x7168 : Shape := ⟨2, ![5120, 7168]⟩
abbrev S7168 : Shape := ⟨1, ![7168]⟩
abbrev S1536x5120 : Shape := ⟨2, ![1536, 5120]⟩
abbrev S1x5120 : Shape := ⟨2, ![1, 5120]⟩
abbrev S1x7168 : Shape := ⟨2, ![1, 7168]⟩
abbrev S61440x128 : Shape := ⟨2, ![61440, 128]⟩
abbrev S12288x128 : Shape := ⟨2, ![12288, 128]⟩
abbrev S3x1x512 : Shape := ⟨3, ![3, 1, 512]⟩
abbrev S256x5120 : Shape := ⟨2, ![256, 5120]⟩
abbrev S3x256 : Shape := ⟨2, ![3, 256]⟩
abbrev S10240x128 : Shape := ⟨2, ![10240, 128]⟩
abbrev S2048x128 : Shape := ⟨2, ![2048, 128]⟩
abbrev S1x1x256 : Shape := ⟨3, ![1, 1, 256]⟩
abbrev S256x128 : Shape := ⟨2, ![256, 128]⟩
abbrev S32x5120 : Shape := ⟨2, ![32, 5120]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩
abbrev S1x256 : Shape := ⟨2, ![1, 256]⟩
abbrev S8x256 : Shape := ⟨2, ![8, 256]⟩
abbrev S256x8 : Shape := ⟨2, ![256, 8]⟩
abbrev S256x1 : Shape := ⟨2, ![256, 1]⟩
abbrev S5120x1024 : Shape := ⟨2, ![5120, 1024]⟩
abbrev S256x1024 : Shape := ⟨2, ![256, 1024]⟩
abbrev S1x1024 : Shape := ⟨2, ![1, 1024]⟩
abbrev S5120x128 : Shape := ⟨2, ![5120, 128]⟩
abbrev S5120x2x128 : Shape := ⟨3, ![5120, 2, 128]⟩
abbrev S256x2x128 : Shape := ⟨3, ![256, 2, 128]⟩
abbrev S256x1x128 : Shape := ⟨3, ![256, 1, 128]⟩
abbrev S1024x128 : Shape := ⟨2, ![1024, 128]⟩
abbrev S1024x2x128 : Shape := ⟨3, ![1024, 2, 128]⟩
abbrev S3x512x40x128 : Shape := ⟨4, ![3, 512, 40, 128]⟩
abbrev S3x512x8x128 : Shape := ⟨4, ![3, 512, 8, 128]⟩
abbrev S3x512x1 : Shape := ⟨3, ![3, 512, 1]⟩

abbrev nBuf : Space → Nat
  | .hbm => 18
  | .vmem => 20
  | .smem => 0
  | _ => 0

abbrev bufTy : (tb : Table) → Fin (tcTables nBuf tb) → BufTy
  | .hbm, ⟨0, _⟩ => ⟨S3x512x5120, .bf16⟩
  | .hbm, ⟨1, _⟩ => ⟨S5120, .f32⟩
  | .hbm, ⟨2, _⟩ => ⟨S3x512, .i32⟩
  | .hbm, ⟨3, _⟩ => ⟨S5120x7168, .fp8e4m3⟩
  | .hbm, ⟨4, _⟩ => ⟨S7168, .f32⟩
  | .hbm, ⟨5, _⟩ => ⟨S1536x5120, .bf16⟩
  | .hbm, ⟨6, _⟩ => ⟨S1x5120, .f32⟩
  | .hbm, ⟨7, _⟩ => ⟨S1x7168, .f32⟩
  | .hbm, ⟨8, _⟩ => ⟨S61440x128, .bf16⟩
  | .hbm, ⟨9, _⟩ => ⟨S12288x128, .bf16⟩
  | .hbm, ⟨10, _⟩ => ⟨S12288x128, .bf16⟩
  | .hbm, ⟨11, _⟩ => ⟨S1536x5120, .fp8e4m3⟩
  | .hbm, ⟨12, _⟩ => ⟨S3x1x512, .f32⟩
  | .hbm, ⟨13, _⟩ => ⟨S3x512x40x128, .bf16⟩
  | .hbm, ⟨14, _⟩ => ⟨S3x512x8x128, .bf16⟩
  | .hbm, ⟨15, _⟩ => ⟨S3x512x8x128, .bf16⟩
  | .hbm, ⟨16, _⟩ => ⟨S3x512x5120, .fp8e4m3⟩
  | .hbm, ⟨17, _⟩ => ⟨S3x512x1, .f32⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S3x256, .i32⟩
  | .local _ .vmem, ⟨4, _⟩ => ⟨S3x256, .i32⟩
  | .local _ .vmem, ⟨5, _⟩ => ⟨S5120x7168, .fp8e4m3⟩
  | .local _ .vmem, ⟨6, _⟩ => ⟨S1x7168, .f32⟩
  | .local _ .vmem, ⟨7, _⟩ => ⟨S10240x128, .bf16⟩
  | .local _ .vmem, ⟨8, _⟩ => ⟨S10240x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S256x5120, .fp8e4m3⟩
  | .local _ .vmem, ⟨14, _⟩ => ⟨S256x5120, .fp8e4m3⟩
  | .local _ .vmem, ⟨15, _⟩ => ⟨S1x1x256, .f32⟩
  | .local _ .vmem, ⟨16, _⟩ => ⟨S1x1x256, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | _, _ => ⟨S3x512x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [BitOps F]

abbrev grid0 : Pipeline.Grid := ⟨1, ![6], ![false]⟩

def k0_off1 (i : grid0.Coords) : Fin 2 → Nat :=
  let arg0 : BitVec 32 := BitVec.ofNat 32 (i 0).val
  let c0_i32_307 : BitVec 32 := 0#32
  let v913 : BitVec 1 := Scalar.cmpi .sgt arg0 c0_i32_307
  let v914 : BitVec 32 := Scalar.extui v913
  let c0_i32_308 : BitVec 32 := 0#32
  let v915 : BitVec 1 := Scalar.cmpi .slt arg0 c0_i32_308
  let v916 : BitVec 32 := Scalar.extui v915
  let v917 : BitVec 32 := Scalar.subi v914 v916
  let c2_i32_306 : BitVec 32 := 2#32
  let c0_i32_309 : BitVec 32 := 0#32
  let v918 : BitVec 1 := Scalar.cmpi .sgt c2_i32_306 c0_i32_309
  let v919 : BitVec 32 := Scalar.extui v918
  let c0_i32_310 : BitVec 32 := 0#32
  let v920 : BitVec 1 := Scalar.cmpi .slt c2_i32_306 c0_i32_310
  let v921 : BitVec 32 := Scalar.extui v920
  let v922 : BitVec 32 := Scalar.subi v919 v921
  let v923 : BitVec 1 := Scalar.cmpi .ne v917 v922
  let v924 : BitVec 32 := Scalar.remsi arg0 c2_i32_306
  let c0_i32_311 : BitVec 32 := 0#32
  let v925 : BitVec 1 := Scalar.cmpi .ne v924 c0_i32_311
  let v926 : BitVec 1 := Scalar.andi v923 v925
  let v912 : BitVec 32 := Scalar.divsi arg0 c2_i32_306
  let c1_i32_312 : BitVec 32 := 1#32
  let v927 : BitVec 32 := Scalar.subi v912 c1_i32_312
  let v928 : BitVec 32 := Scalar.select v926 v927 v912
  let v929 : Index := Scalar.indexCast v928
  let c0_313 : Index := 0#32
  ![v929.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10240x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F]
-- ==== ReferenceIdeal.lean ====
abbrev S3x512x5120 : Shape := ⟨3, ![3, 512, 5120]⟩
abbrev S5120 : Shape := ⟨1, ![5120]⟩
abbrev S3x512 : Shape := ⟨2, ![3, 512]⟩
abbrev S5120x7168 : Shape := ⟨2, ![5120, 7168]⟩
abbrev S7168 : Shape := ⟨1, ![7168]⟩
abbrev S_ : Shape := ⟨0, ![]⟩
abbrev S3x512x1 : Shape := ⟨3, ![3, 512, 1]⟩
abbrev S1x1x5120 : Shape := ⟨3, ![1, 1, 5120]⟩
abbrev S254 : Shape := ⟨1, ![254]⟩
abbrev S1x1x254 : Shape := ⟨3, ![1, 1, 254]⟩
abbrev S3x512x254 : Shape := ⟨3, ![3, 512, 254]⟩
abbrev S1536x5120 : Shape := ⟨2, ![1536, 5120]⟩
abbrev S1536x7168 : Shape := ⟨2, ![1536, 7168]⟩
abbrev S3x512x7168 : Shape := ⟨3, ![3, 512, 7168]⟩
abbrev S1x1x7168 : Shape := ⟨3, ![1, 1, 7168]⟩
abbrev S3x512x40x128 : Shape := ⟨4, ![3, 512, 40, 128]⟩
abbrev S3x512x1024 : Shape := ⟨3, ![3, 512, 1024]⟩
abbrev S3x512x8x128 : Shape := ⟨4, ![3, 512, 8, 128]⟩
abbrev S64 : Shape := ⟨1, ![64]⟩
abbrev S1x1x64 : Shape := ⟨3, ![1, 1, 64]⟩
abbrev S3x512x64 : Shape := ⟨3, ![3, 512, 64]⟩
abbrev S3x512x128 : Shape := ⟨3, ![3, 512, 128]⟩
abbrev S3x512x1x128 : Shape := ⟨4, ![3, 512, 1, 128]⟩
abbrev S3x512x40x64 : Shape := ⟨4, ![3, 512, 40, 64]⟩
abbrev S3x512x8x64 : Shape := ⟨4, ![3, 512, 8, 64]⟩

abbrev nBuf : Space → Nat
  | .hbm => 168
  | .vmem => 4
  | .smem => 0
  | _ => 0

abbrev hbmTy0_0 (i : Nat) : BufTy := match i % 128 with
  | 0 => ⟨S3x512x5120, .bf16⟩
  | 1 => ⟨S5120, .f32⟩
  | 2 => ⟨S3x512, .i32⟩
  | 3 => ⟨S5120x7168, .fp8e4m3⟩
  | 4 => ⟨S7168, .f32⟩
  | 5 => ⟨S3x512x5120, .f32⟩
  | 6 => ⟨S3x512x5120, .f32⟩
  | 7 => ⟨S_, .f32⟩
  | 8 => ⟨S3x512, .f32⟩
  | 9 => ⟨S3x512x1, .f32⟩
  | 10 => ⟨S_, .f32⟩
  | 11 => ⟨S3x512x1, .f32⟩
  | 12 => ⟨S3x512x1, .f32⟩
  | 13 => ⟨S_, .f32⟩
  | 14 => ⟨S3x512x1, .f32⟩
  | 15 => ⟨S3x512x1, .f32⟩
  | 16 => ⟨S3x512x1, .f32⟩
  | 17 => ⟨S3x512x5120, .f32⟩
  | 18 => ⟨S3x512x5120, .f32⟩
  | 19 => ⟨S1x1x5120, .f32⟩
  | 20 => ⟨S3x512x5120, .f32⟩
  | 21 => ⟨S3x512x5120, .f32⟩
  | 22 => ⟨S3x512x5120, .f32⟩
  | 23 => ⟨S_, .f32⟩
  | 24 => ⟨S3x512, .f32⟩
  | 25 => ⟨S3x512x1, .f32⟩
  | 26 => ⟨S_, .f32⟩
  | 27 => ⟨S3x512x1, .f32⟩
  | 28 => ⟨S3x512x1, .f32⟩
  | 29 => ⟨S254, .f32⟩
  | 30 => ⟨S_, .f32⟩
  | 31 => ⟨S254, .f32⟩
  | 32 => ⟨S254, .f32⟩
  | 33 => ⟨S_, .f32⟩
  | 34 => ⟨S254, .f32⟩
  | 35 => ⟨S254, .f32⟩
  | 36 => ⟨S1x1x254, .f32⟩
  | 37 => ⟨S3x512x254, .f32⟩
  | 38 => ⟨S3x512x254, .f32⟩
  | 39 => ⟨S3x512x254, .i1⟩
  | 40 => ⟨S3x512x254, .i32⟩
  | 41 => ⟨S_, .i32⟩
  | 42 => ⟨S3x512, .i32⟩
  | 43 => ⟨S3x512x1, .i32⟩
  | 44 => ⟨S_, .i32⟩
  | 45 => ⟨S3x512x1, .i32⟩
  | 46 => ⟨S3x512x1, .i32⟩
  | 47 => ⟨S_, .f32⟩
  | 48 => ⟨S3x512x1, .f32⟩
  | 49 => ⟨S3x512x1, .i1⟩
  | 50 => ⟨S_, .f32⟩
  | 51 => ⟨S3x512x1, .f32⟩
  | 52 => ⟨S3x512x1, .i1⟩
  | 53 => ⟨S3x512x1, .i1⟩
  | 54 => ⟨S_, .i32⟩
  | 55 => ⟨S_, .i32⟩
  | 56 => ⟨S3x512x1, .i32⟩
  | 57 => ⟨S3x512x1, .i32⟩
  | 58 => ⟨S3x512x1, .f32⟩
  | 59 => ⟨S_, .f32⟩
  | 60 => ⟨S3x512x1, .f32⟩
  | 61 => ⟨S3x512x1, .f32⟩
  | 62 => ⟨S_, .i32⟩
  | 63 => ⟨S3x512x1, .i32⟩
  | 64 => ⟨S3x512x1, .i1⟩
  | 65 => ⟨S_, .i32⟩
  | 66 => ⟨S3x512x1, .i32⟩
  | 67 => ⟨S3x512x1, .i1⟩
  | 68 => ⟨S_, .f32⟩
  | 69 => ⟨S_, .f32⟩
  | 70 => ⟨S3x512x1, .f32⟩
  | 71 => ⟨S3x512x1, .f32⟩
  | 72 => ⟨S_, .f32⟩
  | 73 => ⟨S_, .f32⟩
  | 74 => ⟨S3x512x1, .f32⟩
  | 75 => ⟨S3x512x1, .f32⟩
  | 76 => ⟨S3x512x1, .i32⟩
  | 77 => ⟨S3x512x1, .f32⟩
  | 78 => ⟨S_, .f32⟩
  | 79 => ⟨S3x512x1, .f32⟩
  | 80 => ⟨S3x512x1, .f32⟩
  | 81 => ⟨S_, .i32⟩
  | 82 => ⟨S3x512x1, .i32⟩
  | 83 => ⟨S3x512x1, .i1⟩
  | 84 => ⟨S_, .i32⟩
  | 85 => ⟨S3x512x1, .i32⟩
  | 86 => ⟨S3x512x1, .i1⟩
  | 87 => ⟨S_, .f32⟩
  | 88 => ⟨S_, .f32⟩
  | 89 => ⟨S3x512x1, .f32⟩
  | 90 => ⟨S3x512x1, .f32⟩
  | 91 => ⟨S_, .f32⟩
  | 92 => ⟨S_, .f32⟩
  | 93 => ⟨S3x512x1, .f32⟩
  | 94 => ⟨S3x512x1, .f32⟩
  | 95 => ⟨S3x512x5120, .f32⟩
  | 96 => ⟨S3x512x5120, .f32⟩
  | 97 => ⟨S_, .f32⟩
  | 98 => ⟨S_, .f32⟩
  | 99 => ⟨S_, .f32⟩
  | 100 => ⟨S3x512x5120, .f32⟩
  | 101 => ⟨S3x512x5120, .f32⟩
  | 102 => ⟨S_, .f32⟩
  | 103 => ⟨S3x512x5120, .f32⟩
  | 104 => ⟨S3x512x5120, .f32⟩
  | 105 => ⟨S1536x5120, .f32⟩
  | 106 => ⟨S1536x5120, .fp8e4m3⟩
  | 107 => ⟨S1536x7168, .f32⟩
  | 108 => ⟨S3x512x5120, .fp8e4m3⟩
  | 109 => ⟨S3x512x7168, .f32⟩
  | 110 => ⟨S3x512x7168, .f32⟩
  | 111 => ⟨S3x512x7168, .f32⟩
  | 112 => ⟨S1x1x7168, .f32⟩
  | 113 => ⟨S3x512x7168, .f32⟩
  | 114 => ⟨S3x512x7168, .f32⟩
  | 115 => ⟨S3x512x5120, .f32⟩
  | 116 => ⟨S3x512x40x128, .f32⟩
  | 117 => ⟨S3x512x1024, .f32⟩
  | 118 => ⟨S3x512x8x128, .f32⟩
  | 119 => ⟨S3x512x1024, .f32⟩
  | 120 => ⟨S3x512x8x128, .f32⟩
  | 121 => ⟨S64, .f32⟩
  | 122 => ⟨S_, .f32⟩
  | 123 => ⟨S64, .f32⟩
  | 124 => ⟨S64, .f32⟩
  | 125 => ⟨S_, .f32⟩
  | 126 => ⟨S64, .f32⟩
  | 127 => ⟨S64, .f32⟩
  | _ => ⟨S3x512x5120, .bf16⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S_, .f32⟩
  | 7 => ⟨S64, .f32⟩
  | 8 => ⟨S64, .f32⟩
  | 9 => ⟨S3x512, .f32⟩
  | 10 => ⟨S3x512x1, .f32⟩
  | 11 => ⟨S1x1x64, .f32⟩
  | 12 => ⟨S3x512x64, .f32⟩
  | 13 => ⟨S3x512x64, .f32⟩
  | 14 => ⟨S3x512x64, .f32⟩
  | 15 => ⟨S3x512x128, .f32⟩
  | 16 => ⟨S3x512x1x128, .f32⟩
  | 17 => ⟨S3x512x1x128, .f32⟩
  | 18 => ⟨S3x512x1x128, .f32⟩
  | 19 => ⟨S3x512x40x128, .f32⟩
  | 20 => ⟨S3x512x40x128, .f32⟩
  | 21 => ⟨S3x512x40x64, .f32⟩
  | 22 => ⟨S3x512x40x64, .f32⟩
  | 23 => ⟨S3x512x40x64, .f32⟩
  | 24 => ⟨S3x512x40x128, .f32⟩
  | 25 => ⟨S3x512x40x128, .f32⟩
  | 26 => ⟨S3x512x40x128, .f32⟩
  | 27 => ⟨S3x512x40x128, .f32⟩
  | 28 => ⟨S3x512x40x128, .bf16⟩
  | 29 => ⟨S3x512x8x128, .f32⟩
  | 30 => ⟨S3x512x8x128, .f32⟩
  | 31 => ⟨S3x512x8x64, .f32⟩
  | 32 => ⟨S3x512x8x64, .f32⟩
  | 33 => ⟨S3x512x8x64, .f32⟩
  | 34 => ⟨S3x512x8x128, .f32⟩
  | 35 => ⟨S3x512x8x128, .f32⟩
  | 36 => ⟨S3x512x8x128, .f32⟩
  | 37 => ⟨S3x512x8x128, .f32⟩
  | 38 => ⟨S3x512x8x128, .bf16⟩
  | 39 => ⟨S3x512x8x128, .bf16⟩
  | _ => ⟨S3x512x5120, .bf16⟩

abbrev hbmTy (i : Nat) : BufTy := match i / 128 with
  | 0 => hbmTy0_0 i
  | 1 => hbmTy0_1 i
  | _ => ⟨S3x512x5120, .bf16⟩

abbrev bufTy : (tb : Table) → Fin (tcTables nBuf tb) → BufTy
  | .hbm, ⟨i, _⟩ => hbmTy i
  | .local _ .vmem, ⟨0, _⟩ => ⟨S1536x5120, .f32⟩
  | .local _ .vmem, ⟨1, _⟩ => ⟨S5120x7168, .fp8e4m3⟩
  | .local _ .vmem, ⟨2, _⟩ => ⟨S1536x5120, .fp8e4m3⟩
  | .local _ .vmem, ⟨3, _⟩ => ⟨S1536x7168, .f32⟩
  | _, _ => ⟨S3x512x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_9 : Ref sig .tc := ⟨.hbm, 54, rfl⟩
abbrev main_call0_v0 : Ref sig .tc := ⟨.hbm, 55, rfl⟩
abbrev main_call0_v1 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_v42 : Ref sig .tc := ⟨.hbm, 63, rfl⟩
abbrev main_v43 : Ref sig .tc := ⟨.hbm, 64, rfl⟩
abbrev main_c_12 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_call1_v0 : Ref sig .tc := ⟨.hbm, 69, rfl⟩
abbrev main_call1_v1 : Ref sig .tc := ⟨.hbm, 70, rfl⟩
abbrev main_v46 : Ref sig .tc := ⟨.hbm, 71, rfl⟩
abbrev main_cst_14 : Ref sig .tc := ⟨.hbm, 72, rfl⟩
abbrev main_call2_v0 : Ref sig .tc := ⟨.hbm, 73, rfl⟩
abbrev main_call2_v1 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_15 : Ref sig .tc := ⟨.hbm, 78, rfl⟩
abbrev main_v50 : Ref sig .tc := ⟨.hbm, 79, rfl⟩
abbrev main_v51 : Ref sig .tc := ⟨.hbm, 80, rfl⟩
abbrev main_c_16 : Ref sig .tc := ⟨.hbm, 81, rfl⟩
abbrev main_v52 : Ref sig .tc := ⟨.hbm, 82, rfl⟩
abbrev main_v53 : Ref sig .tc := ⟨.hbm, 83, rfl⟩
abbrev main_c_17 : Ref sig .tc := ⟨.hbm, 84, rfl⟩
abbrev main_v54 : Ref sig .tc := ⟨.hbm, 85, rfl⟩
abbrev main_v55 : Ref sig .tc := ⟨.hbm, 86, rfl⟩
abbrev main_cst_18 : Ref sig .tc := ⟨.hbm, 87, rfl⟩
abbrev main_call3_v0 : Ref sig .tc := ⟨.hbm, 88, rfl⟩
abbrev main_call3_v1 : Ref sig .tc := ⟨.hbm, 89, rfl⟩
abbrev main_v56 : Ref sig .tc := ⟨.hbm, 90, rfl⟩
abbrev main_cst_19 : Ref sig .tc := ⟨.hbm, 91, rfl⟩
abbrev main_call4_v0 : Ref sig .tc := ⟨.hbm, 92, rfl⟩
abbrev main_call4_v1 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_20 : Ref sig .tc := ⟨.hbm, 97, rfl⟩
abbrev main_cst_21 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_v60 : Ref sig .tc := ⟨.hbm, 104, rfl⟩
abbrev main_v61 : Ref sig .tc := ⟨.hbm, 105, rfl⟩
abbrev main_v62_0 : Ref sig .tc := ⟨.hbm, 106, rfl⟩
abbrev main_v62_1 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_22 : Ref sig .tc := ⟨.hbm, 122, rfl⟩
abbrev main_v77 : Ref sig .tc := ⟨.hbm, 123, rfl⟩
abbrev main_v78 : Ref sig .tc := ⟨.hbm, 124, rfl⟩
abbrev main_cst_23 : Ref sig .tc := ⟨.hbm, 125, rfl⟩
abbrev main_v79 : Ref sig .tc := ⟨.hbm, 126, rfl⟩
abbrev main_v80 : Ref sig .tc := ⟨.hbm, 127, rfl⟩
abbrev main_cst_24 : Ref sig .tc := ⟨.hbm, 128, rfl⟩
abbrev main_v81 : Ref sig .tc := ⟨.hbm, 129, rfl⟩
abbrev main_v82 : Ref sig .tc := ⟨.hbm, 130, rfl⟩
abbrev main_cst_25 : Ref sig .tc := ⟨.hbm, 131, rfl⟩
abbrev main_v83 : Ref sig .tc := ⟨.hbm, 132, rfl⟩
abbrev main_v84 : Ref sig .tc := ⟨.hbm, 133, rfl⟩
abbrev main_cst_26 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1536x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelFrame.lean ====
module

public import proofs.«01_k».proof.Proof.Gen.Kernel.Frame
public import proofs.«01_k».proof.Proof.Gen.Kernel.Skeleton
public import Idealize.ShloMosaic.Lib.Pipeline.FrameSuffix
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

/-! ## The body -/

set_option maxHeartbeats 4000000 in
/-- The kernel body on whole buffers: it terminates without a fault, leaves the five inputs as they were, and leaves the
    five outputs and the three scratch buffers at some contents. -/
theorem body_runs (c : Dev nD) (E : Set ℕ) (i : grid0.Coords) (arg1 : Memref sig .tc .vmem S256x5120 .bf16) (harg1 : arg1.IsWhole) (arg2 : Memref sig .tc .vmem S1x5120 .f32) (harg2 : arg2.IsWhole) (arg3 : Memref sig .tc .vmem S3x256 .i32) (harg3 : arg3.IsWhole) (arg4 : Memref sig .tc .vmem S5120x7168 .fp8e4m3) (harg4 : arg4.IsWhole) (arg5 : Memref sig .tc .vmem S1x7168 .f32) (harg5 : arg5.IsWhole) (arg6 : Memref sig .tc .vmem S10240x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S256x5120 .fp8e4m3) (harg9 : arg9.IsWhole) (arg10 : Memref sig .tc .vmem S1x1x256 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (x0 : Vec F S256x5120 .bf16) (x1 : Vec F S1x5120 .f32) (x2 : Vec F S3x256 .i32) (x3 : Vec F S5120x7168 .fp8e4m3) (x4 : Vec F S1x7168 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13) K := by
  simp only [cc0_rmsnorm_fp8_qkv_rope_eq_skeleton]; unfold cc0_rmsnorm_fp8_qkv_rope_skel
  unfold owns
  rw [harg6.set_eq_univ, harg7.set_eq_univ, harg8.set_eq_univ]
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst e1 e2 e3 e4 e5
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  iexists _; iexists _; isplitr; swap; · iexact H13
  ipureintro; rfl

/-! ## The proof data: the outputs forgotten -/

variable (m : (ℓ : Loc nD τ sig) → Buf (Elt F) ℓ) (ρ : Dev nD → PrngReg)

/-- The five outputs are forgotten: the frame claim reads nothing of what the kernel leaves in them. -/
def forgets0 : Fin cfg0.W → Bool := fun w => decide (5 ≤ w.1)

/-- The proof data: the arrays as the region finds them, each input's buffer left at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨n + 5, h⟩ => Pipeline.Dat.unnamed (cfg := cfg0) ⟨n + 5, h⟩ t
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

/-- What the body leaves in input window 0: its block. -/
theorem after0_0 (c : Dev nD) (t : Fin cfg0.N) : (dats m 0 c).after 0 t = iblk m c 0 t := by dsimp only [dats]
/-- Input window 0's buffer holds its block when the body starts. -/
theorem before0_0 (c : Dev nD) (t : Fin cfg0.N) (d) : (dats m 0 c).before 0 t d = iblk m c 0 t :=
  before0_0_of m (dats m 0 c) (A_eq m c 0) (after0_0 m c) t d
/-- What the body leaves in input window 1: its block. -/
theorem after0_1 (c : Dev nD) (t : Fin cfg0.N) : (dats m 0 c).after 1 t = iblk m c 1 t := by dsimp only [dats]
/-- Input window 1's buffer holds its block when the body starts. -/
theorem before0_1 (c : Dev nD) (t : Fin cfg0.N) (d) : (dats m 0 c).before 1 t d = iblk m c 1 t :=
  before0_1_of m (dats m 0 c) (A_eq m c 1) (after0_1 m c) t d
/-- What the body leaves in input window 2: its block. -/
theorem after0_2 (c : Dev nD) (t : Fin cfg0.N) : (dats m 0 c).after 2 t = iblk m c 2 t := by dsimp only [dats]
/-- Input window 2's buffer holds its block when the body starts. -/
theorem before0_2 (c : Dev nD) (t : Fin cfg0.N) (d) : (dats m 0 c).before 2 t d = iblk m c 2 t :=
  before0_2_of m (dats m 0 c) (A_eq m c 2) (after0_2 m c) t d
/-- What the body leaves in input window 3: its block. -/
theorem after0_3 (c : Dev nD) (t : Fin cfg0.N) : (dats m 0 c).after 3 t = iblk m c 3 t := by dsimp only [dats]
/-- Input window 3's buffer holds its block when the body starts. -/
theorem before0_3 (c : Dev nD) (t : Fin cfg0.N) (d) : (dats m 0 c).before 3 t d = iblk m c 3 t :=
  before0_3_of m (dats m 0 c) (A_eq m c 3) (after0_3 m c) t d
/-- What the body leaves in input window 4: its block. -/
theorem after0_4 (c : Dev nD) (t : Fin cfg0.N) : (dats m 0 c).after 4 t = iblk m c 4 t := by dsimp only [dats]
/-- Input window 4's buffer holds its block when the body starts. -/
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

/-- What the body is left with at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

/-- The body at any point, between the two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4]
  unfold Pipeline.ΦA
  rw [scopedRest0_eq]
  iintro ⟨⟨⟨⟨%s0, S0⟩, ⟨%s1, S1⟩, ⟨%s2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_runs c Set.univ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [S0]; · iexists s0; rw [owns_whole]; iexact S0
  isplitl [S1]; · iexists s1; rw [owns_whole]; iexact S1
  isplitl [S2]; · iexists s2; rw [owns_whole]; iexact S2
  iintro ⟨H0, H1, H2, H3, H4, ⟨%d5x, H5⟩, ⟨%d6x, H6⟩, ⟨%d7x, H7⟩, ⟨%d8x, H8⟩, ⟨%d9x, H9⟩, ⟨%u0, S0⟩, ⟨%u1, S1⟩, ⟨%u2, S2⟩⟩
  isplitl [S0 S1 S2 Hr]
  · isplitl [S0 S1 S2]
    · isplitl [S0]; · iexists u0; rw [← owns_whole (c : Thread nD τ) cc0_scratch0 fullShare u0]; iexact S0
      isplitl [S1]; · iexists u1; rw [← owns_whole (c : Thread nD τ) cc0_scratch1 fullShare u1]; iexact S1
      iexists u2; rw [← owns_whole (c : Thread nD τ) cc0_scratch2 fullShare u2]; iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-- The buffers the host lines after the kernel write: the five reshaped results. -/
def tailW : Finset (Ref sig .tc) := {main_v4, main_v5, main_v6, main_v7, main_v8}

/-- Every line after the kernel writes one of them. -/
theorem sfx_writes : ∀ ops ∈ ([hostOps1] : List (List (HloOp τ sig (Elt F)))), ∀ op ∈ ops, ∀ b : Ref sig .tc,
    Proc.devRef .tc b ∈ op.writes → b ∈ tailW := by
  intro ops hops op hop b hb
  simp only [List.mem_singleton] at hops
  subst hops
  simp only [hostOps1, List.mem_cons, List.mem_nil_iff, or_false] at hop
  rcases hop with rfl | rfl | rfl | rfl | rfl <;>
    (rw [StableHlo.reshape_writes, Finset.mem_singleton] at hb; have hb := Proc.devRef_injective _ hb; subst hb; decide)

set_option backward.isDefEq.respectTransparency.types false in
set_option maxHeartbeats 800000 in
/-- The run: every fair execution of @main terminates, every input array and every buffer the host lines do not write ends as
    the region found it, and every semaphore counter is zero. -/
theorem run_main : θ_run defs (onTc (τ := τ) (main (F := F))) (s₀ m ρ)
    (fun r => Pipeline.RDat.FramePostR (cfgs 0) (fun c => (dats m 0 c).toRForget forgets0) tailW (V m) r ∧ r.2.sem = fun _ => 0) :=
  Pipeline.θ_run_frame_around_T_forget (Q' := _) cfgs (dats m) (0 : Fin 1) launch0 defs₀ Variants.none forgets0 tailW m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl) (hQ' := fun _ h => h)

/-- THE FRAME: the run terminates, the five arguments end unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Finset.mem_sdiff.2 ⟨Pipeline.mem_restRefs_of main_arg0 (by decide) (by decide), by decide⟩)).trans (V_main_arg0 m c),
     ((h.1 c).2 main_arg1 (Finset.mem_sdiff.2 ⟨Pipeline.mem_restRefs_of main_arg1 (by decide) (by decide), by decide⟩)).trans (V_main_arg1 m c),
     (h.1.arr_in c 2 rfl).trans ((A_eq m c 2).trans (V_main_arg2 m c)),
     (h.1.arr_in c 3 rfl).trans ((A_eq m c 3).trans (V_main_arg3 m c)),
     ((h.1 c).2 main_arg4 (Finset.mem_sdiff.2 ⟨Pipeline.mem_restRefs_of main_arg4 (by decide) (by decide), by decide⟩)).trans (V_main_arg4 m c)⟩,
    h.2⟩) (run_main m ρ)

end Cert.Kernel.Hand

end
-- ==== Proof.KernelIdealFrame.lean ====
module

public import proofs.«01_k».proof.Proof.Gen.KernelIdeal.Frame
public import proofs.«01_k».proof.Proof.Gen.KernelIdeal.Skeleton
public import Idealize.ShloMosaic.Lib.Pipeline.FrameSuffix
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body -/

set_option maxHeartbeats 4000000 in
/-- The kernel body on whole buffers: it terminates without a fault, leaves the five inputs as they were, and leaves the
    five outputs and the three scratch buffers at some contents. -/
theorem body_runs (c : Dev nD) (E : Set ℕ) (i : grid0.Coords) (arg1 : Memref sig .tc .vmem S256x5120 .bf16) (harg1 : arg1.IsWhole) (arg2 : Memref sig .tc .vmem S1x5120 .f32) (harg2 : arg2.IsWhole) (arg3 : Memref sig .tc .vmem S3x256 .i32) (harg3 : arg3.IsWhole) (arg4 : Memref sig .tc .vmem S5120x7168 .fp8e4m3) (harg4 : arg4.IsWhole) (arg5 : Memref sig .tc .vmem S1x7168 .f32) (harg5 : arg5.IsWhole) (arg6 : Memref sig .tc .vmem S10240x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S256x5120 .fp8e4m3) (harg9 : arg9.IsWhole) (arg10 : Memref sig .tc .vmem S1x1x256 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (x0 : Vec F S256x5120 .bf16) (x1 : Vec F S1x5120 .f32) (x2 : Vec F S3x256 .i32) (x3 : Vec F S5120x7168 .fp8e4m3) (x4 : Vec F S1x7168 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13) K := by
  simp only [cc0_rmsnorm_fp8_qkv_rope_eq_skeleton]; unfold cc0_rmsnorm_fp8_qkv_rope_skel
  unfold owns
  rw [harg6.set_eq_univ, harg7.set_eq_univ, harg8.set_eq_univ]
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst e1 e2 e3 e4 e5
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  iexists _; iexists _; isplitr; swap; · iexact H13
  ipureintro; rfl

/-! ## The proof data: the outputs forgotten -/

variable (m : (ℓ : Loc nD τ sig) → Buf (Elt F) ℓ) (ρ : Dev nD → PrngReg)

/-- The five outputs are forgotten: the frame claim reads nothing of what the kernel leaves in them. -/
def forgets0 : Fin cfg0.W → Bool := fun w => decide (5 ≤ w.1)

/-- The proof data: the arrays as the region finds them, each input's buffer left at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨n + 5, h⟩ => Pipeline.Dat.unnamed (cfg := cfg0) ⟨n + 5, h⟩ t
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

/-- What the body leaves in input window 0: its block. -/
theorem after0_0 (c : Dev nD) (t : Fin cfg0.N) : (dats m 0 c).after 0 t = iblk m c 0 t := by dsimp only [dats]
/-- Input window 0's buffer holds its block when the body starts. -/
theorem before0_0 (c : Dev nD) (t : Fin cfg0.N) (d) : (dats m 0 c).before 0 t d = iblk m c 0 t :=
  before0_0_of m (dats m 0 c) (A_eq m c 0) (after0_0 m c) t d
/-- What the body leaves in input window 1: its block. -/
theorem after0_1 (c : Dev nD) (t : Fin cfg0.N) : (dats m 0 c).after 1 t = iblk m c 1 t := by dsimp only [dats]
/-- Input window 1's buffer holds its block when the body starts. -/
theorem before0_1 (c : Dev nD) (t : Fin cfg0.N) (d) : (dats m 0 c).before 1 t d = iblk m c 1 t :=
  before0_1_of m (dats m 0 c) (A_eq m c 1) (after0_1 m c) t d
/-- What the body leaves in input window 2: its block. -/
theorem after0_2 (c : Dev nD) (t : Fin cfg0.N) : (dats m 0 c).after 2 t = iblk m c 2 t := by dsimp only [dats]
/-- Input window 2's buffer holds its block when the body starts. -/
theorem before0_2 (c : Dev nD) (t : Fin cfg0.N) (d) : (dats m 0 c).before 2 t d = iblk m c 2 t :=
  before0_2_of m (dats m 0 c) (A_eq m c 2) (after0_2 m c) t d
/-- What the body leaves in input window 3: its block. -/
theorem after0_3 (c : Dev nD) (t : Fin cfg0.N) : (dats m 0 c).after 3 t = iblk m c 3 t := by dsimp only [dats]
/-- Input window 3's buffer holds its block when the body starts. -/
theorem before0_3 (c : Dev nD) (t : Fin cfg0.N) (d) : (dats m 0 c).before 3 t d = iblk m c 3 t :=
  before0_3_of m (dats m 0 c) (A_eq m c 3) (after0_3 m c) t d
/-- What the body leaves in input window 4: its block. -/
theorem after0_4 (c : Dev nD) (t : Fin cfg0.N) : (dats m 0 c).after 4 t = iblk m c 4 t := by dsimp only [dats]
/-- Input window 4's buffer holds its block when the body starts. -/
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

/-- What the body is left with at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X))

/-- The body at any point, between the two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4]
  unfold Pipeline.ΦA
  rw [scopedRest0_eq]
  iintro ⟨⟨⟨⟨%s0, S0⟩, ⟨%s1, S1⟩, ⟨%s2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_runs c Set.univ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [S0]; · iexists s0; rw [owns_whole]; iexact S0
  isplitl [S1]; · iexists s1; rw [owns_whole]; iexact S1
  isplitl [S2]; · iexists s2; rw [owns_whole]; iexact S2
  iintro ⟨H0, H1, H2, H3, H4, ⟨%d5x, H5⟩, ⟨%d6x, H6⟩, ⟨%d7x, H7⟩, ⟨%d8x, H8⟩, ⟨%d9x, H9⟩, ⟨%u0, S0⟩, ⟨%u1, S1⟩, ⟨%u2, S2⟩⟩
  isplitl [S0 S1 S2 Hr]
  · isplitl [S0 S1 S2]
    · isplitl [S0]; · iexists u0; rw [← owns_whole (c : Thread nD τ) cc0_scratch0 fullShare u0]; iexact S0
      isplitl [S1]; · iexists u1; rw [← owns_whole (c : Thread nD τ) cc0_scratch1 fullShare u1]; iexact S1
      iexists u2; rw [← owns_whole (c : Thread nD τ) cc0_scratch2 fullShare u2]; iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-- The buffers the host lines after the kernel write: the five reshaped results. -/
def tailW : Finset (Ref sig .tc) := {main_v4, main_v5, main_v6, main_v7, main_v8}

/-- Every line after the kernel writes one of them. -/
theorem sfx_writes : ∀ ops ∈ ([hostOps1] : List (List (HloOp τ sig (Elt F)))), ∀ op ∈ ops, ∀ b : Ref sig .tc,
    Proc.devRef .tc b ∈ op.writes → b ∈ tailW := by
  intro ops hops op hop b hb
  simp only [List.mem_singleton] at hops
  subst hops
  simp only [hostOps1, List.mem_cons, List.mem_nil_iff, or_false] at hop
  rcases hop with rfl | rfl | rfl | rfl | rfl <;>
    (rw [StableHlo.reshape_writes, Finset.mem_singleton] at hb; have hb := Proc.devRef_injective _ hb; subst hb; decide)

set_option backward.isDefEq.respectTransparency.types false in
set_option maxHeartbeats 800000 in
/-- The run: every fair execution of @main terminates, every input array and every buffer the host lines do not write ends as
    the region found it, and every semaphore counter is zero. -/
theorem run_main : θ_run defs (onTc (τ := τ) (main (F := F))) (s₀ m ρ)
    (fun r => Pipeline.RDat.FramePostR (cfgs 0) (fun c => (dats m 0 c).toRForget forgets0) tailW (V m) r ∧ r.2.sem = fun _ => 0) :=
  Pipeline.θ_run_frame_around_T_forget (Q' := _) cfgs (dats m) (0 : Fin 1) launch0 defs₀ Variants.none forgets0 tailW m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl) (hQ' := fun _ h => h)

/-- THE FRAME: the run terminates, the five arguments end unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Finset.mem_sdiff.2 ⟨Pipeline.mem_restRefs_of main_arg0 (by decide) (by decide), by decide⟩)).trans (V_main_arg0 m c),
     ((h.1 c).2 main_arg1 (Finset.mem_sdiff.2 ⟨Pipeline.mem_restRefs_of main_arg1 (by decide) (by decide), by decide⟩)).trans (V_main_arg1 m c),
     (h.1.arr_in c 2 rfl).trans ((A_eq m c 2).trans (V_main_arg2 m c)),
     (h.1.arr_in c 3 rfl).trans ((A_eq m c 3).trans (V_main_arg3 m c)),
     ((h.1 c).2 main_arg4 (Finset.mem_sdiff.2 ⟨Pipeline.mem_restRefs_of main_arg4 (by decide) (by decide), by decide⟩)).trans (V_main_arg4 m c)⟩,
    h.2⟩) (run_main m ρ)

end Cert.KernelIdeal.Hand

end
-- ==== Proof.Blocks.lean ====
module

public import proofs.«01_k».proof.Proof.KernelIdealFrame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## One chunk of 32 rows -/

/-- One step of the search for the exponent field: the bit is kept when the power of two it gives is at most `a`. -/
def stepF (bit : BitVec 32) (a : FVec F S32x1 .f32) (f : IVec S32x1 32) : IVec S32x1 32 :=
  select (cmpf .oge a (bitcastToFloat .f32 (shli (ori f (broadcast S32x1 bit)) (broadcast S32x1 23#32))))
    (ori f (broadcast S32x1 bit)) f

/-- The exponent field found bit by bit. -/
def fieldF (a : FVec F S32x1 .f32) : IVec S32x1 32 :=
  stepF 1#32 a (stepF 2#32 a (stepF 4#32 a (stepF 8#32 a (stepF 16#32 a (stepF 32#32 a (stepF 64#32 a
    (stepF 128#32 a (broadcast S32x1 0#32))))))))

/-- Field 0 or 255: the scale is 1. -/
def unitF (f : IVec S32x1 32) : IVec S32x1 1 :=
  ori (cmpi .eq f (broadcast S32x1 0#32)) (cmpi .eq f (broadcast S32x1 255#32))

/-- The scale of a field. -/
def scaleF (f : IVec S32x1 32) : FVec F S32x1 .f32 :=
  bitcastToFloat .f32 (shli (select (unitF f) (broadcast S32x1 127#32) (addi f (broadcast S32x1 1#32))) (broadcast S32x1 23#32))

/-- The inverse scale of a field. -/
def invF (f : IVec S32x1 32) : FVec F S32x1 .f32 :=
  bitcastToFloat .f32 (shli (select (unitF f) (broadcast S32x1 127#32)
    (maxsi (subi (broadcast S32x1 253#32) f) (broadcast S32x1 0#32))) (broadcast S32x1 23#32))

/-- The codes of one chunk of rows. -/
def codesC (g : Vec F S1x5120 .f32) (v : Vec F S32x5120 .bf16) : FVec F S32x5120 .fp8e4m3 :=
  truncf .fp8e4m3 (minimumf (broadcast S32x5120 (Scalar.ofBits .f32 0x43E00000#32))
    (maximumf (broadcast S32x5120 (Scalar.ofBits .f32 0xC3E00000#32))
      (mulf (k0_pay3 g v) (broadcastTo S32x5120 (invF (fieldF (k0_pay4 g v))) broadcasts_S32x1_S32x5120)))) bitsLt_fp8e4m3_f32

/-- The scales of one chunk of rows, each along a row of lanes. -/
def xsC (g : Vec F S1x5120 .f32) (v : Vec F S32x5120 .bf16) : FVec F S32x128 .f32 :=
  k0_pay87 (scaleF (fieldF (k0_pay4 g v)))

/-! ## Lists of stores -/

/-- The last of `n` stores first. -/
def down {α : Type*} (f : ℕ → α) : ℕ → List α
  | 0 => []
  | n + 1 => f n :: down f n

/-- The members of such a list are the values below `n`. -/
theorem mem_down {α : Type*} (f : ℕ → α) (p : α) : ∀ n, p ∈ down f n ↔ ∃ k, k < n ∧ f k = p
  | 0 => by simp [down]
  | n + 1 => by
    rw [down, List.mem_cons, mem_down f p n]
    constructor
    · rintro (rfl | ⟨k, hk, rfl⟩)
      · exact ⟨n, by omega, rfl⟩
      · exact ⟨k, by omega, rfl⟩
    · rintro ⟨k, hk, rfl⟩
      rcases Nat.lt_succ_iff_lt_or_eq.mp hk with h | rfl
      · exact .inr ⟨k, h, rfl⟩
      · exact .inl rfl

/-- A list of such stores, each piece of it agreeing with `G` and every element covered, reads as `G`. -/
theorem read_down {κ : Kind} {sp : Space} {s : Shape} {e : EltTy} (v : View sig κ sp s e) (f : v.ty.Contents (Elt F))
    (G : s.Idx → Elt F e) (pc : ℕ → View.Piece (Elt F) s e) (n : ℕ)
    (hp : ∀ k, k < n → ∀ x : (pc k).1.shape.Idx, (pc k).2 x = G ((pc k).1.emb x))
    (hc : ∀ y, ∃ k, k < n ∧ ∃ x : (pc k).1.shape.Idx, (pc k).1.emb x = y) :
    v.read (Elt F) (v.writes (Elt F) f (down pc n)) = G := by
  funext y
  refine View.read_writes_apply_of_pieces v f G _ ?_ y ?_
  · intro p h
    obtain ⟨k, hk, rfl⟩ := (mem_down _ _ _).mp h
    exact hp k hk
  · obtain ⟨k, hk, x, rfl⟩ := hc y
    refine ⟨pc k, (mem_down _ _ _).mpr ⟨k, hk, rfl⟩, ?_⟩
    exact (pc k).1.idx_mem x

/-! ## The codes and the scales of the 256 rows -/

/-- The `k`-th chunk of 32 rows lies in the block. -/
theorem inb_rows (k : ℕ) : ∀ a, ![32 * (k % 8), 0] a + S32x5120.size a ≤ S256x5120.size a := by
  intro a
  have : k % 8 < 8 := Nat.mod_lt _ (by decide)
  match a with
  | ⟨0, _⟩ => show 32 * (k % 8) + 32 ≤ 256; omega
  | ⟨1, _⟩ => exact Nat.le_refl 5120

/-- The same of the scales. -/
theorem inb_xrows (k : ℕ) : ∀ a, ![32 * (k % 8), 0] a + S32x128.size a ≤ S256x128.size a := by
  intro a
  have : k % 8 < 8 := Nat.mod_lt _ (by decide)
  match a with
  | ⟨0, _⟩ => show 32 * (k % 8) + 32 ≤ 256; omega
  | ⟨1, _⟩ => exact Nat.le_refl 128

/-- The `k`-th store of codes. -/
def codesP (arg1 : Memref sig .tc .vmem S256x5120 .bf16) (f1 : BufTy.Contents (Elt F) arg1.view.ty) (g : Vec F S1x5120 .f32)
    (k : ℕ) : View.Piece (Elt F) S256x5120 .fp8e4m3 :=
  ⟨Rect.unit (s := S256x5120) ![32 * (k % 8), 0] S32x5120.size (inb_rows k),
    codesC g (View.readAt (Elt F) arg1.view (Rect.unit (s := S256x5120) ![32 * (k % 8), 0] S32x5120.size (inb_rows k)).toLoadRect f1)⟩

/-- The `k`-th store of scales. -/
def xsP (arg1 : Memref sig .tc .vmem S256x5120 .bf16) (f1 : BufTy.Contents (Elt F) arg1.view.ty) (g : Vec F S1x5120 .f32)
    (k : ℕ) : View.Piece (Elt F) S256x128 .f32 :=
  ⟨Rect.unit (s := S256x128) ![32 * (k % 8), 0] S32x128.size (inb_xrows k),
    xsC g (View.readAt (Elt F) arg1.view (Rect.unit (s := S256x5120) ![32 * (k % 8), 0] S32x5120.size (inb_rows k)).toLoadRect f1)⟩

/-- The gain as the body reads it. -/
abbrev gainL (arg2 : Memref sig .tc .vmem S1x5120 .f32) (f2 : BufTy.Contents (Elt F) arg2.view.ty) : Vec F S1x5120 .f32 :=
  View.readAt (Elt F) arg2.view (Rect.unit (s := S1x5120) ![0, 0] S1x5120.size inb_S1x5120_S1x5120_0_0).toLoadRect f2

/-- The eight stores of codes are one chunk's function of its rows. -/
theorem codes_pieces (c : Dev nD) (arg1 : Memref sig .tc .vmem S256x5120 .bf16) (arg2 : Memref sig .tc .vmem S1x5120 .f32)
    (f1 : BufTy.Contents (Elt F) arg1.view.ty) (f2 : BufTy.Contents (Elt F) arg2.view.ty) :
    body_runs.sl.H9_8 c arg1 arg2 f1 f2 = down (codesP arg1 f1 (gainL arg2 f2)) 8 := rfl

/-- The eight stores of scales likewise. -/
theorem xs_pieces (c : Dev nD) (arg1 : Memref sig .tc .vmem S256x5120 .bf16) (arg2 : Memref sig .tc .vmem S1x5120 .f32)
    (f1 : BufTy.Contents (Elt F) arg1.view.ty) (f2 : BufTy.Contents (Elt F) arg2.view.ty) :
    body_runs.sl.H13_8 c arg1 arg2 f1 f2 = down (xsP arg1 f1 (gainL arg2 f2)) 8 := rfl

/-- The `k`-th 32 rows of a block. -/
def rowsC (x : Vec F S256x5120 .bf16) (k : Fin 8) : Vec F S32x5120 .bf16 :=
  fun i => x (ix2 ⟨32 * k.val + (i 0).val, by have := k.isLt; have : (i 0).val < 32 := (i 0).isLt; omega⟩ (i 1))

/-- The codes of a block of 256 rows. -/
def codesB (g : Vec F S1x5120 .f32) (x : Vec F S256x5120 .bf16) : Vec F S256x5120 .fp8e4m3 :=
  fun i => codesC g (rowsC x ⟨(i 0).val / 32, by have : (i 0).val < 256 := (i 0).isLt; omega⟩)
    (ix2 ⟨(i 0).val % 32, Nat.mod_lt _ (by decide)⟩ (i 1))

/-- The scales of a block of 256 rows, each along a row of lanes. -/
def xsB (g : Vec F S1x5120 .f32) (x : Vec F S256x5120 .bf16) : Vec F S256x128 .f32 :=
  fun i => xsC g (rowsC x ⟨(i 0).val / 32, by have : (i 0).val < 256 := (i 0).isLt; omega⟩)
    (ix2 ⟨(i 0).val % 32, Nat.mod_lt _ (by decide)⟩ (i 1))

/-- A load of 32 rows. -/
theorem rows_load (arg1 : Memref sig .tc .vmem S256x5120 .bf16) (f1 : BufTy.Contents (Elt F) arg1.view.ty) (k : ℕ) :
    View.readAt (Elt F) arg1.view (Rect.unit (s := S256x5120) ![32 * (k % 8), 0] S32x5120.size (inb_rows k)).toLoadRect f1 =
      rowsC (arg1.view.read (Elt F) f1) ⟨k % 8, Nat.mod_lt _ (by decide)⟩ := by
  funext x
  show arg1.view.read (Elt F) f1 _ = arg1.view.read (Elt F) f1 _
  congr 1
  funext a
  match a with
  | ⟨0, _⟩ => apply Fin.ext; show 32 * (k % 8) + 1 * (x 0).val = 32 * (k % 8) + (x 0).val; omega
  | ⟨1, _⟩ => apply Fin.ext; show 0 + 1 * (x 1).val = (x 1).val; omega

/-- The gain is read whole. -/
theorem gain_load (arg2 : Memref sig .tc .vmem S1x5120 .f32) (f2 : BufTy.Contents (Elt F) arg2.view.ty) :
    gainL arg2 f2 = arg2.view.read (Elt F) f2 := by
  funext x
  show arg2.view.read (Elt F) f2 _ = arg2.view.read (Elt F) f2 _
  congr 1
  funext a
  match a with
  | ⟨0, _⟩ => apply Fin.ext; show 0 + 1 * (x 0).val = (x 0).val; omega
  | ⟨1, _⟩ => apply Fin.ext; show 0 + 1 * (x 1).val = (x 1).val; omega

/-- What the stores of codes leave, whatever was there before. -/
theorem codes_read (v : View sig .tc .vmem S256x5120 .fp8e4m3) (f : v.ty.Contents (Elt F)) (arg1 : Memref sig .tc .vmem S256x5120 .bf16)
    (f1 : BufTy.Contents (Elt F) arg1.view.ty) (g : Vec F S1x5120 .f32) :
    v.read (Elt F) (v.writes (Elt F) f (down (codesP arg1 f1 g) 8)) = codesB g (arg1.view.read (Elt F) f1) := by
  refine read_down v f _ _ 8 ?_ ?_
  · intro k hk (x : S32x5120.Idx)
    have h0 : (x 0).val < 32 := (x 0).isLt
    show codesC g _ x = codesC g _ _
    rw [rows_load]
    congr 1
    · congr 1
      apply Fin.ext
      show k % 8 = (32 * (k % 8) + 1 * (x 0).val) / 32
      omega
    · funext a
      match a with
      | ⟨0, _⟩ => apply Fin.ext; show (x 0).val = (32 * (k % 8) + 1 * (x 0).val) % 32; omega
      | ⟨1, _⟩ => apply Fin.ext; show (x 1).val = 0 + 1 * (x 1).val; omega
  · intro y
    have h0 : (y 0).val < 256 := (y 0).isLt
    refine ⟨(y 0).val / 32, by omega, (ix2 ⟨(y 0).val % 32, Nat.mod_lt _ (by decide)⟩ (y 1) : S32x5120.Idx), ?_⟩
    funext a
    match a with
    | ⟨0, _⟩ => apply Fin.ext; show 32 * ((y 0).val / 32 % 8) + 1 * ((y 0).val % 32) = (y 0).val; omega
    | ⟨1, _⟩ => apply Fin.ext; show 0 + 1 * (y 1).val = (y 1).val; omega

/-- What the stores of scales leave, whatever was there before. -/
theorem xs_read (v : View sig .tc .vmem S256x128 .f32) (f : v.ty.Contents (Elt F)) (arg1 : Memref sig .tc .vmem S256x5120 .bf16)
    (f1 : BufTy.Contents (Elt F) arg1.view.ty) (g : Vec F S1x5120 .f32) :
    v.read (Elt F) (v.writes (Elt F) f (down (xsP arg1 f1 g) 8)) = xsB g (arg1.view.read (Elt F) f1) := by
  refine read_down v f _ _ 8 ?_ ?_
  · intro k hk (x : S32x128.Idx)
    have h0 : (x 0).val < 32 := (x 0).isLt
    show xsC g _ x = xsC g _ _
    rw [rows_load]
    congr 1
    · congr 1
      apply Fin.ext
      show k % 8 = (32 * (k % 8) + 1 * (x 0).val) / 32
      omega
    · funext a
      match a with
      | ⟨0, _⟩ => apply Fin.ext; show (x 0).val = (32 * (k % 8) + 1 * (x 0).val) % 32; omega
      | ⟨1, _⟩ => apply Fin.ext; show (x 1).val = 0 + 1 * (x 1).val; omega
  · intro y
    have h0 : (y 0).val < 256 := (y 0).isLt
    refine ⟨(y 0).val / 32, by omega, (ix2 ⟨(y 0).val % 32, Nat.mod_lt _ (by decide)⟩ (y 1) : S32x128.Idx), ?_⟩
    funext a
    match a with
    | ⟨0, _⟩ => apply Fin.ext; show 32 * ((y 0).val / 32 % 8) + 1 * ((y 0).val % 32) = (y 0).val; omega
    | ⟨1, _⟩ => apply Fin.ext; show 0 + 1 * (y 1).val = (y 1).val; omega

/-- A whole block loaded at offset zero is the block read. -/
theorem ld_whole {κ : Kind} {sp : Space} {n0 n1 : ℕ} {e : EltTy} (v : View sig κ sp ⟨2, ![n0, n1]⟩ e) (f : v.ty.Contents (Elt F))
    (h : ∀ a, ![0, 0] a + (⟨2, ![n0, n1]⟩ : Shape).size a ≤ (⟨2, ![n0, n1]⟩ : Shape).size a) :
    View.readAt (Elt F) v (Rect.unit (s := ⟨2, ![n0, n1]⟩) ![0, 0] (⟨2, ![n0, n1]⟩ : Shape).size h).toLoadRect f = v.read (Elt F) f := by
  funext x
  show v.read (Elt F) f _ = v.read (Elt F) f x
  congr 1
  funext a
  match a with
  | ⟨0, _⟩ => apply Fin.ext; show 0 + 1 * (x 0).val = (x 0).val; omega
  | ⟨1, _⟩ => apply Fin.ext; show 0 + 1 * (x 1).val = (x 1).val; omega

/-! ## The rope tables -/

/-- The row of positions of this step: two steps to a batch. -/
def posB (x2 : Vec F S3x256 .i32) (i : grid0.Coords) : Vec F S1x256 .i32 :=
  fun j => x2 (ix2 ⟨(k0_off1 i 0), by have := k0_off1_inb i 0; exact this⟩ (j 1))

/-- The table of cosines times the row's scale. -/
def cosB (g : Vec F S1x5120 .f32) (x : Vec F S256x5120 .bf16) (x2 : Vec F S3x256 .i32) (i : grid0.Coords) : Vec F S256x128 .f32 :=
  k0_pay93 (k0_pay92 (posB x2 i) (xsB g x))

/-- The table of sines with their signs, times the row's scale. -/
def sinB (g : Vec F S1x5120 .f32) (x : Vec F S256x5120 .bf16) (x2 : Vec F S3x256 .i32) (i : grid0.Coords) : Vec F S256x128 .f32 :=
  k0_pay94 (iota .tc S1x128 32 [1] iota_S1x128_d1_w32) (xsB g x) (k0_pay91 (posB x2 i))

/-- One whole store read whole. -/
theorem readCov_whole {κ : Kind} {sp : Space} {n0 n1 : ℕ} {e : EltTy} (v : View sig κ sp ⟨2, ![n0, n1]⟩ e)
    (h h' : ∀ a, ![0, 0] a + (⟨2, ![n0, n1]⟩ : Shape).size a ≤ (⟨2, ![n0, n1]⟩ : Shape).size a) (w : (⟨2, ![n0, n1]⟩ : Shape).Idx → Elt F e) :
    v.readCov [⟨Rect.unit (s := ⟨2, ![n0, n1]⟩) ![0, 0] (⟨2, ![n0, n1]⟩ : Shape).size h, w⟩]
      (Rect.unit (s := ⟨2, ![n0, n1]⟩) ![0, 0] (⟨2, ![n0, n1]⟩ : Shape).size h').toLoadRect = w := by
  unfold View.readCov
  rw [ld_whole]
  refine read_down v v.junk w (fun _ => ⟨Rect.unit (s := ⟨2, ![n0, n1]⟩) ![0, 0] (⟨2, ![n0, n1]⟩ : Shape).size h, w⟩) 1 ?_ ?_
  · intro k _ x
    show w x = w _
    congr 1
    funext a
    match a with
    | ⟨0, _⟩ => apply Fin.ext; show (x 0).val = 0 + 1 * (x 0).val; omega
    | ⟨1, _⟩ => apply Fin.ext; show (x 1).val = 0 + 1 * (x 1).val; omega
  · intro y
    refine ⟨0, by omega, y, ?_⟩
    funext a
    match a with
    | ⟨0, _⟩ => apply Fin.ext; show 0 + 1 * (y 0).val = (y 0).val; omega
    | ⟨1, _⟩ => apply Fin.ext; show 0 + 1 * (y 1).val = (y 1).val; omega

section Loads

variable (c : Dev nD) (i : grid0.Coords) (arg1 : Memref sig .tc .vmem S256x5120 .bf16) (arg2 : Memref sig .tc .vmem S1x5120 .f32)
  (arg3 : Memref sig .tc .vmem S3x256 .i32) (arg9 : Memref sig .tc .vmem S256x5120 .fp8e4m3) (arg11 arg12 arg13 : Memref sig .tc .vmem S256x128 .f32)
  (f1 : BufTy.Contents (Elt F) arg1.view.ty) (f2 : BufTy.Contents (Elt F) arg2.view.ty) (f3 : BufTy.Contents (Elt F) arg3.view.ty)

/-- The codes as the products read them. -/
theorem v969_eq : body_runs.sl.v969 c arg1 arg2 arg9 f1 f2 = codesB (arg2.view.read (Elt F) f2) (arg1.view.read (Elt F) f1) := by
  unfold body_runs.sl.v969 View.readCov
  rw [codes_pieces, gain_load]
  exact (ld_whole _ _ _).trans (codes_read _ _ _ _ _)

/-- The scales as the tables read them. -/
theorem v951_eq : body_runs.sl.v951 c arg1 arg2 arg13 f1 f2 = xsB (arg2.view.read (Elt F) f2) (arg1.view.read (Elt F) f1) := by
  unfold body_runs.sl.v951 View.readCov
  rw [xs_pieces, gain_load]
  exact (ld_whole _ _ _).trans (xs_read _ _ _ _ _)

/-- The positions read. -/
theorem pos_load (h) : View.readAt (Elt F) arg3.view (Rect.unit (s := S3x256) (k0_off1 i) S1x256.size h).toLoadRect f3 =
    posB (arg3.view.read (Elt F) f3) i := by
  funext x
  show arg3.view.read (Elt F) f3 _ = arg3.view.read (Elt F) f3 _
  congr 1
  funext a
  match a with
  | ⟨0, _⟩ => apply Fin.ext; show k0_off1 i 0 + 1 * (x 0).val = k0_off1 i 0; have : (x 0).val < 1 := (x 0).isLt; omega
  | ⟨1, _⟩ => apply Fin.ext; show k0_off1 i 1 + 1 * (x 1).val = (x 1).val; have : k0_off1 i 1 = 0 := rfl; omega

/-- The cosines as the heads read them. -/
theorem v978_eq : body_runs.sl.v978 c i arg1 arg2 arg3 arg11 arg13 f1 f2 f3 =
    cosB (arg2.view.read (Elt F) f2) (arg1.view.read (Elt F) f1) (arg3.view.read (Elt F) f3) i := by
  unfold body_runs.sl.v978 body_runs.sl.H11_1 body_runs.sl.r_58 cosB
  rw [v951_eq, pos_load]
  exact readCov_whole _ _ _ _

/-- The sines as the heads read them. -/
theorem v981_eq : body_runs.sl.v981 c i arg1 arg2 arg3 arg12 arg13 f1 f2 f3 =
    sinB (arg2.view.read (Elt F) f2) (arg1.view.read (Elt F) f1) (arg3.view.read (Elt F) f3) i := by
  unfold body_runs.sl.v981 body_runs.sl.H12_1 body_runs.sl.r_57 body_runs.sl.v931 sinB
  rw [v951_eq, pos_load]
  exact readCov_whole _ _ _ _

end Loads

end Cert.KernelIdeal.Hand

end
-- ==== Proof.Heads.lean ====
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## One head and one pair of heads -/

/-- The lanes of head `h` of a chunk of eight heads. -/
theorem slices_h (h : ℕ) : S256x1024.Slices ![0, 128 * (h % 8)] S256x128 := by
  refine ⟨rfl, fun a => ?_⟩
  have : h % 8 < 8 := Nat.mod_lt _ (by decide)
  match a with
  | ⟨0, _⟩ => exact Nat.le_refl 256
  | ⟨1, _⟩ => show 128 * (h % 8) + 128 ≤ 1024; omega

/-- One head of a chunk with the rope tables applied. -/
def headC (t : FVec F S256x1024 .f32) (h : ℕ) (cs sn : Vec F S256x128 .f32) : FVec F S256x128 .f32 :=
  addf (mulf (extractStridedSlice S256x128 ![0, 128 * (h % 8)] t (slices_h h)) cs)
    (mulf (dynamicRotate 1 64#32 none (extractStridedSlice S256x128 ![0, 128 * (h % 8)] t (slices_h h)) rotates_S256x128_d1) sn)

/-- One head of a chunk with the row's scale alone. -/
def vheadC (t : FVec F S256x1024 .f32) (h : ℕ) (xs : Vec F S256x128 .f32) : FVec F S256x128 .f32 :=
  mulf (extractStridedSlice S256x128 ![0, 128 * (h % 8)] t (slices_h h)) xs

/-- The chunk's columns of the weights as loaded. -/
theorem inb_w (n : ℕ) : ∀ a, ![0, 1024 * (n % 7)] a + S5120x1024.size a ≤ S5120x7168.size a := by
  intro a
  have : n % 7 < 7 := Nat.mod_lt _ (by decide)
  match a with
  | ⟨0, _⟩ => exact Nat.le_refl 5120
  | ⟨1, _⟩ => show 1024 * (n % 7) + 1024 ≤ 7168; omega

/-- The chunk's column scales lie in the row of them. -/
theorem inb_s (n : ℕ) : ∀ a, ![0, 1024 * (n % 7)] a + S1x1024.size a ≤ S1x7168.size a := by
  intro a
  have : n % 7 < 7 := Nat.mod_lt _ (by decide)
  match a with
  | ⟨0, _⟩ => exact Nat.le_refl 1
  | ⟨1, _⟩ => show 1024 * (n % 7) + 1024 ≤ 7168; omega

/-- The weights of chunk `n` as the body loads them. -/
abbrev wL (arg4 : Memref sig .tc .vmem S5120x7168 .fp8e4m3) (f4 : BufTy.Contents (Elt F) arg4.view.ty) (n : ℕ) : Vec F S5120x1024 .fp8e4m3 :=
  View.readAt (Elt F) arg4.view (Rect.unit (s := S5120x7168) ![0, 1024 * (n % 7)] S5120x1024.size (inb_w n)).toLoadRect f4

/-- The column scales of chunk `n` as the body loads them. -/
abbrev sL (arg5 : Memref sig .tc .vmem S1x7168 .f32) (f5 : BufTy.Contents (Elt F) arg5.view.ty) (n : ℕ) : Vec F S1x1024 .f32 :=
  View.readAt (Elt F) arg5.view (Rect.unit (s := S1x7168) ![0, 1024 * (n % 7)] S1x1024.size (inb_s n)).toLoadRect f5

/-- The weights of chunk `n`. -/
def wC (x3 : Vec F S5120x7168 .fp8e4m3) (n : ℕ) : Vec F S5120x1024 .fp8e4m3 :=
  fun i => x3 (ix2 (i 0) ⟨1024 * (n % 7) + (i 1).val, by have : (i 1).val < 1024 := (i 1).isLt; omega⟩)

/-- The column scales of chunk `n`. -/
def sC (x4 : Vec F S1x7168 .f32) (n : ℕ) : Vec F S1x1024 .f32 :=
  fun i => x4 (ix2 (i 0) ⟨1024 * (n % 7) + (i 1).val, by have : (i 1).val < 1024 := (i 1).isLt; omega⟩)

/-- Loading the weights of a chunk. -/
theorem w_load (arg4 : Memref sig .tc .vmem S5120x7168 .fp8e4m3) (f4 : BufTy.Contents (Elt F) arg4.view.ty) (n : ℕ) :
    wL arg4 f4 n = wC (arg4.view.read (Elt F) f4) n := by
  funext x
  show arg4.view.read (Elt F) f4 _ = arg4.view.read (Elt F) f4 _
  congr 1
  funext a
  match a with
  | ⟨0, _⟩ => apply Fin.ext; show 0 + 1 * (x 0).val = (x 0).val; omega
  | ⟨1, _⟩ => apply Fin.ext; show 1024 * (n % 7) + 1 * (x 1).val = 1024 * (n % 7) + (x 1).val; omega

/-- Loading the column scales of a chunk. -/
theorem s_load (arg5 : Memref sig .tc .vmem S1x7168 .f32) (f5 : BufTy.Contents (Elt F) arg5.view.ty) (n : ℕ) :
    sL arg5 f5 n = sC (arg5.view.read (Elt F) f5) n := by
  funext x
  show arg5.view.read (Elt F) f5 _ = arg5.view.read (Elt F) f5 _
  congr 1
  funext a
  match a with
  | ⟨0, _⟩ => apply Fin.ext; show 0 + 1 * (x 0).val = (x 0).val; omega
  | ⟨1, _⟩ => apply Fin.ext; show 1024 * (n % 7) + 1 * (x 1).val = 1024 * (n % 7) + (x 1).val; omega

/-- Pair `p` of a chunk's eight heads, roped, their rows interleaved. -/
def pairQ (cd : Vec F S256x5120 .fp8e4m3) (w : Vec F S5120x1024 .fp8e4m3) (s : Vec F S1x1024 .f32) (cs sn : Vec F S256x128 .f32)
    (p : ℕ) : Vec F S256x2x128 .bf16 :=
  k0_pay1 (headC (k0_pay95 cd w s) (2 * p) cs sn) (headC (k0_pay95 cd w s) (2 * p + 1) cs sn)

/-- Pair `p` of a chunk's eight heads, scaled alone, their rows interleaved. -/
def pairV (cd : Vec F S256x5120 .fp8e4m3) (w : Vec F S5120x1024 .fp8e4m3) (s : Vec F S1x1024 .f32) (xs : Vec F S256x128 .f32)
    (p : ℕ) : Vec F S256x2x128 .bf16 :=
  k0_pay1 (vheadC (k0_pay95 cd w s) (2 * p) xs) (vheadC (k0_pay95 cd w s) (2 * p + 1) xs)

/-- Every twentieth row of the words of `q`, from row `k` on. -/
theorem inb_q (k : ℕ) : ∀ a : Fin 3, S256x2x128.size a = 0 ∨ ![k % 20, 0, 0] a + (![20, 1, 1] : Fin 3 → ℕ) a * (S256x2x128.size a - 1) < S5120x2x128.size a := by
  intro a
  have : k % 20 < 20 := Nat.mod_lt _ (by decide)
  match a with
  | ⟨0, _⟩ => right; show k % 20 + 20 * (256 - 1) < 5120; omega
  | ⟨1, _⟩ => right; show 0 + 1 * (2 - 1) < 2; omega
  | ⟨2, _⟩ => right; show 0 + 1 * (128 - 1) < 128; omega

/-- Every fourth row of the words of `k` or `v`, from row `k` on. -/
theorem inb_k (k : ℕ) : ∀ a : Fin 3, S256x2x128.size a = 0 ∨ ![k % 4, 0, 0] a + (![4, 1, 1] : Fin 3 → ℕ) a * (S256x2x128.size a - 1) < S1024x2x128.size a := by
  intro a
  have : k % 4 < 4 := Nat.mod_lt _ (by decide)
  match a with
  | ⟨0, _⟩ => right; show k % 4 + 4 * (256 - 1) < 1024; omega
  | ⟨1, _⟩ => right; show 0 + 1 * (2 - 1) < 2; omega
  | ⟨2, _⟩ => right; show 0 + 1 * (128 - 1) < 128; omega

/-- Where the `k`-th pair of heads of `q` goes. -/
abbrev rectQ (k : ℕ) : Rect S5120x2x128 :=
  { off := ![k % 20, 0, 0], size := S256x2x128.size, stride := ![20, 1, 1], inb := inb_q k, stride_pos := spos_20_1_1 }
/-- Where the `k`-th pair of heads of `k` and of `v` goes. -/
abbrev rectK (k : ℕ) : Rect S1024x2x128 :=
  { off := ![k % 4, 0, 0], size := S256x2x128.size, stride := ![4, 1, 1], inb := inb_k k, stride_pos := spos_4_1_1 }

section Stores

variable (c : Dev nD) (i : grid0.Coords) (arg1 : Memref sig .tc .vmem S256x5120 .bf16) (arg2 : Memref sig .tc .vmem S1x5120 .f32)
  (arg3 : Memref sig .tc .vmem S3x256 .i32) (arg4 : Memref sig .tc .vmem S5120x7168 .fp8e4m3) (arg5 : Memref sig .tc .vmem S1x7168 .f32)
  (arg6 : Memref sig .tc .vmem S10240x128 .bf16) (harg6 : arg6.IsWhole) (arg7 : Memref sig .tc .vmem S2048x128 .bf16) (harg7 : arg7.IsWhole)
  (arg8 : Memref sig .tc .vmem S2048x128 .bf16) (harg8 : arg8.IsWhole)
  (arg9 : Memref sig .tc .vmem S256x5120 .fp8e4m3) (arg11 arg12 arg13 : Memref sig .tc .vmem S256x128 .f32)
  (f1 : BufTy.Contents (Elt F) arg1.view.ty) (f2 : BufTy.Contents (Elt F) arg2.view.ty) (f3 : BufTy.Contents (Elt F) arg3.view.ty)
  (f4 : BufTy.Contents (Elt F) arg4.view.ty) (f5 : BufTy.Contents (Elt F) arg5.view.ty) (f6 : BufTy.Contents (Elt F) arg6.view.ty)
  (f7 : BufTy.Contents (Elt F) arg7.view.ty) (f8 : BufTy.Contents (Elt F) arg8.view.ty)

/-- The `k`-th store into `q`. -/
def qP (cd : Vec F S256x5120 .fp8e4m3) (cs sn : Vec F S256x128 .f32) (k : ℕ) : View.Piece (Elt F) S5120x2x128 .bf16 :=
  ⟨rectQ k, pairQ cd (wL arg4 f4 (k / 4)) (sL arg5 f5 (k / 4)) cs sn (k % 4)⟩

/-- The `k`-th store into `k`. -/
def kP (cd : Vec F S256x5120 .fp8e4m3) (cs sn : Vec F S256x128 .f32) (k : ℕ) : View.Piece (Elt F) S1024x2x128 .bf16 :=
  ⟨rectK k, pairQ cd (wL arg4 f4 5) (sL arg5 f5 5) cs sn (k % 4)⟩

/-- The `k`-th store into `v`. -/
def vP (cd : Vec F S256x5120 .fp8e4m3) (xs : Vec F S256x128 .f32) (k : ℕ) : View.Piece (Elt F) S1024x2x128 .bf16 :=
  ⟨rectK k, pairV cd (wL arg4 f4 6) (sL arg5 f5 6) xs (k % 4)⟩

/-- The words of `q` seen as rows in pairs. -/
theorem numel_q : S5120x2x128.numel = S10240x128.numel := by decide
/-- The words of `k` and of `v` seen as rows in pairs. -/
theorem numel_k : S1024x2x128.numel = S2048x128.numel := by decide

set_option maxHeartbeats 4000000 in
/-- The twenty stores into `q`. -/
theorem q_pieces : body_runs.sl.H6_w20 c i arg1 arg2 arg3 arg4 arg5 arg6 harg6 arg9 arg11 arg12 arg13 f1 f2 f3 f4 f5 f6 =
    (arg6.view.reshape S5120x2x128 numel_q).writes (Elt F) f6 (down (qP arg4 arg5 f4 f5 (body_runs.sl.v969 c arg1 arg2 arg9 f1 f2)
      (body_runs.sl.v978 c i arg1 arg2 arg3 arg11 arg13 f1 f2 f3) (body_runs.sl.v981 c i arg1 arg2 arg3 arg12 arg13 f1 f2 f3)) 20) := rfl

set_option maxHeartbeats 4000000 in
/-- The four stores into `k`. -/
theorem k_pieces : body_runs.sl.H7_w24 c i arg1 arg2 arg3 arg4 arg5 arg7 harg7 arg9 arg11 arg12 arg13 f1 f2 f3 f4 f5 f7 =
    (arg7.view.reshape S1024x2x128 numel_k).writes (Elt F) f7 (down (kP arg4 arg5 f4 f5 (body_runs.sl.v969 c arg1 arg2 arg9 f1 f2)
      (body_runs.sl.v978 c i arg1 arg2 arg3 arg11 arg13 f1 f2 f3) (body_runs.sl.v981 c i arg1 arg2 arg3 arg12 arg13 f1 f2 f3)) 4) := rfl

set_option maxHeartbeats 4000000 in
/-- The four stores into `v`. -/
theorem v_pieces : body_runs.sl.H8_w28 c arg1 arg2 arg4 arg5 arg8 harg8 arg9 arg13 f1 f2 f4 f5 f8 =
    (arg8.view.reshape S1024x2x128 numel_k).writes (Elt F) f8 (down (vP arg4 arg5 f4 f5 (body_runs.sl.v969 c arg1 arg2 arg9 f1 f2)
      (body_runs.sl.v951 c arg1 arg2 arg13 f1 f2)) 4) := rfl

/-- What a reshaped view reads, the view itself reads at the matched index. -/
theorem read_of_reshape {κ : Kind} {sp : Space} {s s' : Shape} {e : EltTy} (v : View sig κ sp s e) (h : s'.numel = s.numel)
    (f : v.ty.Contents (Elt F)) (x : s'.Idx) : v.read (Elt F) f (Shape.reshapeEquiv h x) = (v.reshape s' h).read (Elt F) f x := rfl

/-- The block of `q` with its rows in pairs. -/
def q3 (cd : Vec F S256x5120 .fp8e4m3) (x3 : Vec F S5120x7168 .fp8e4m3) (x4 : Vec F S1x7168 .f32) (cs sn : Vec F S256x128 .f32) :
    Vec F S5120x2x128 .bf16 :=
  fun y => pairQ cd (wC x3 ((y 0).val % 20 / 4)) (sC x4 ((y 0).val % 20 / 4)) cs sn ((y 0).val % 20 % 4)
    (ix3 ⟨(y 0).val / 20, by have : (y 0).val < 5120 := (y 0).isLt; omega⟩ (y 1) (y 2))

/-- The block of `k` with its rows in pairs. -/
def k3 (cd : Vec F S256x5120 .fp8e4m3) (x3 : Vec F S5120x7168 .fp8e4m3) (x4 : Vec F S1x7168 .f32) (cs sn : Vec F S256x128 .f32) :
    Vec F S1024x2x128 .bf16 :=
  fun y => pairQ cd (wC x3 5) (sC x4 5) cs sn ((y 0).val % 4)
    (ix3 ⟨(y 0).val / 4, by have : (y 0).val < 1024 := (y 0).isLt; omega⟩ (y 1) (y 2))

/-- The block of `v` with its rows in pairs. -/
def v3 (cd : Vec F S256x5120 .fp8e4m3) (x3 : Vec F S5120x7168 .fp8e4m3) (x4 : Vec F S1x7168 .f32) (xs : Vec F S256x128 .f32) :
    Vec F S1024x2x128 .bf16 :=
  fun y => pairV cd (wC x3 6) (sC x4 6) xs ((y 0).val % 4)
    (ix3 ⟨(y 0).val / 4, by have : (y 0).val < 1024 := (y 0).isLt; omega⟩ (y 1) (y 2))

/-- The stores into `q` read back. -/
theorem q3_read (v : View sig .tc .vmem S5120x2x128 .bf16) (f : v.ty.Contents (Elt F)) (cd : Vec F S256x5120 .fp8e4m3) (cs sn : Vec F S256x128 .f32) :
    v.read (Elt F) (v.writes (Elt F) f (down (qP arg4 arg5 f4 f5 cd cs sn) 20)) =
      q3 cd (arg4.view.read (Elt F) f4) (arg5.view.read (Elt F) f5) cs sn := by
  refine read_down v f _ _ 20 ?_ ?_
  · intro k hk (x : S256x2x128.Idx)
    have h0 : (x 0).val < 256 := (x 0).isLt
    have e : (((qP arg4 arg5 f4 f5 cd cs sn k).1.emb x) 0).val % 20 = k := by
      show (k % 20 + 20 * (x 0).val) % 20 = k
      omega
    unfold q3
    rw [e, ← w_load, ← s_load]
    show pairQ _ _ _ _ _ _ x = pairQ _ _ _ _ _ _ _
    congr 1
    funext a
    match a with
    | ⟨0, _⟩ => apply Fin.ext; show (x 0).val = (k % 20 + 20 * (x 0).val) / 20; omega
    | ⟨1, _⟩ => apply Fin.ext; show (x 1).val = 0 + 1 * (x 1).val; omega
    | ⟨2, _⟩ => apply Fin.ext; show (x 2).val = 0 + 1 * (x 2).val; omega
  · intro y
    have h0 : (y 0).val < 5120 := (y 0).isLt
    refine ⟨(y 0).val % 20, by omega, (ix3 ⟨(y 0).val / 20, by omega⟩ (y 1) (y 2) : S256x2x128.Idx), ?_⟩
    funext a
    match a with
    | ⟨0, _⟩ => apply Fin.ext; show (y 0).val % 20 % 20 + 20 * ((y 0).val / 20) = (y 0).val; omega
    | ⟨1, _⟩ => apply Fin.ext; show 0 + 1 * (y 1).val = (y 1).val; omega
    | ⟨2, _⟩ => apply Fin.ext; show 0 + 1 * (y 2).val = (y 2).val; omega

/-- Four strided stores, one for each pair of heads, read back. -/
theorem four_read (v : View sig .tc .vmem S1024x2x128 .bf16) (f : v.ty.Contents (Elt F)) (w : ℕ → Vec F S256x2x128 .bf16) :
    v.read (Elt F) (v.writes (Elt F) f (down (fun k => ⟨rectK k, w (k % 4)⟩) 4)) =
      fun y => w ((y 0).val % 4) (ix3 ⟨(y 0).val / 4, by have : (y 0).val < 1024 := (y 0).isLt; omega⟩ (y 1) (y 2)) := by
  refine read_down v f _ _ 4 ?_ ?_
  · intro k hk (x : S256x2x128.Idx)
    have h0 : (x 0).val < 256 := (x 0).isLt
    have e : (((rectK k).emb x) 0).val % 4 = k % 4 := by
      show (k % 4 + 4 * (x 0).val) % 4 = k % 4
      omega
    show w (k % 4) x = w _ _
    rw [e]
    congr 1
    funext a
    match a with
    | ⟨0, _⟩ => apply Fin.ext; show (x 0).val = (k % 4 + 4 * (x 0).val) / 4; omega
    | ⟨1, _⟩ => apply Fin.ext; show (x 1).val = 0 + 1 * (x 1).val; omega
    | ⟨2, _⟩ => apply Fin.ext; show (x 2).val = 0 + 1 * (x 2).val; omega
  · intro y
    have h0 : (y 0).val < 1024 := (y 0).isLt
    refine ⟨(y 0).val % 4, by omega, (ix3 ⟨(y 0).val / 4, by omega⟩ (y 1) (y 2) : S256x2x128.Idx), ?_⟩
    funext a
    match a with
    | ⟨0, _⟩ => apply Fin.ext; show (y 0).val % 4 % 4 + 4 * ((y 0).val / 4) = (y 0).val; omega
    | ⟨1, _⟩ => apply Fin.ext; show 0 + 1 * (y 1).val = (y 1).val; omega
    | ⟨2, _⟩ => apply Fin.ext; show 0 + 1 * (y 2).val = (y 2).val; omega

/-- The stores into `k` read back. -/
theorem k3_read (v : View sig .tc .vmem S1024x2x128 .bf16) (f : v.ty.Contents (Elt F)) (cd : Vec F S256x5120 .fp8e4m3) (cs sn : Vec F S256x128 .f32) :
    v.read (Elt F) (v.writes (Elt F) f (down (kP arg4 arg5 f4 f5 cd cs sn) 4)) =
      k3 cd (arg4.view.read (Elt F) f4) (arg5.view.read (Elt F) f5) cs sn := by
  refine (four_read v f (fun p => pairQ cd (wL arg4 f4 5) (sL arg5 f5 5) cs sn p)).trans ?_
  unfold k3
  rw [← w_load, ← s_load]

/-- The stores into `v` read back. -/
theorem v3_read (v : View sig .tc .vmem S1024x2x128 .bf16) (f : v.ty.Contents (Elt F)) (cd : Vec F S256x5120 .fp8e4m3) (xs : Vec F S256x128 .f32) :
    v.read (Elt F) (v.writes (Elt F) f (down (vP arg4 arg5 f4 f5 cd xs) 4)) =
      v3 cd (arg4.view.read (Elt F) f4) (arg5.view.read (Elt F) f5) xs := by
  refine (four_read v f (fun p => pairV cd (wL arg4 f4 6) (sL arg5 f5 6) xs p)).trans ?_
  unfold v3
  rw [← w_load, ← s_load]

/-- Rows in pairs unrolled to rows. -/
def flatQ {e : EltTy} (G : Vec F S5120x2x128 e) : Vec F S10240x128 e :=
  fun j => G (ix3 ⟨(j 0).val / 2, by have : (j 0).val < 10240 := (j 0).isLt; omega⟩ ⟨(j 0).val % 2, Nat.mod_lt _ (by decide)⟩ (j 1))
/-- Rows in pairs unrolled to rows. -/
def flatK {e : EltTy} (G : Vec F S1024x2x128 e) : Vec F S2048x128 e :=
  fun j => G (ix3 ⟨(j 0).val / 2, by have : (j 0).val < 2048 := (j 0).isLt; omega⟩ ⟨(j 0).val % 2, Nat.mod_lt _ (by decide)⟩ (j 1))

/-- Reading through the view of rows what is known through the view of pairs of rows. -/
theorem flatQ_read (v : View sig .tc .vmem S10240x128 .bf16) (f : v.ty.Contents (Elt F)) (G : Vec F S5120x2x128 .bf16)
    (h : (v.reshape S5120x2x128 numel_q).read (Elt F) f = G) : v.read (Elt F) f = flatQ G := by
  funext j
  have h0 : (j 0).val < 10240 := (j 0).isLt
  unfold flatQ
  rw [← h, ← read_of_reshape]
  congr 1
  refine (Shape.reshapeEquiv_eq_of_vals numel_q _ j ((j 0).val * 128 + (j 1).val) ((j 0).val / 2 * 256 + (j 0).val % 2 * 128 + (j 1).val) ?_ ?_ ?_).symm
  · exact rowMajor_val2 j 128 rfl
  · exact rowMajor_val3 _ 256 128 rfl rfl
  · omega

/-- The same of `k` and `v`. -/
theorem flatK_read (v : View sig .tc .vmem S2048x128 .bf16) (f : v.ty.Contents (Elt F)) (G : Vec F S1024x2x128 .bf16)
    (h : (v.reshape S1024x2x128 numel_k).read (Elt F) f = G) : v.read (Elt F) f = flatK G := by
  funext j
  have h0 : (j 0).val < 2048 := (j 0).isLt
  unfold flatK
  rw [← h, ← read_of_reshape]
  congr 1
  refine (Shape.reshapeEquiv_eq_of_vals numel_k _ j ((j 0).val * 128 + (j 1).val) ((j 0).val / 2 * 256 + (j 0).val % 2 * 128 + (j 1).val) ?_ ?_ ?_).symm
  · exact rowMajor_val2 j 128 rfl
  · exact rowMajor_val3 _ 256 128 rfl rfl
  · omega

/-- The block of `q` of one step. -/
def qB (x : Vec F S256x5120 .bf16) (g : Vec F S1x5120 .f32) (x2 : Vec F S3x256 .i32) (x3 : Vec F S5120x7168 .fp8e4m3) (x4 : Vec F S1x7168 .f32)
    (i : grid0.Coords) : Vec F S10240x128 .bf16 :=
  flatQ (q3 (codesB g x) x3 x4 (cosB g x x2 i) (sinB g x x2 i))

/-- The block of `k` of one step. -/
def kB (x : Vec F S256x5120 .bf16) (g : Vec F S1x5120 .f32) (x2 : Vec F S3x256 .i32) (x3 : Vec F S5120x7168 .fp8e4m3) (x4 : Vec F S1x7168 .f32)
    (i : grid0.Coords) : Vec F S2048x128 .bf16 :=
  flatK (k3 (codesB g x) x3 x4 (cosB g x x2 i) (sinB g x x2 i))

/-- The block of `v` of one step. -/
def vB (x : Vec F S256x5120 .bf16) (g : Vec F S1x5120 .f32) (x3 : Vec F S5120x7168 .fp8e4m3) (x4 : Vec F S1x7168 .f32) :
    Vec F S2048x128 .bf16 :=
  flatK (v3 (codesB g x) x3 x4 (xsB g x))

/-- What the body leaves in `q`. -/
theorem q_read : arg6.view.read (Elt F) (body_runs.sl.H6_w20 c i arg1 arg2 arg3 arg4 arg5 arg6 harg6 arg9 arg11 arg12 arg13 f1 f2 f3 f4 f5 f6) =
    qB (arg1.view.read (Elt F) f1) (arg2.view.read (Elt F) f2) (arg3.view.read (Elt F) f3) (arg4.view.read (Elt F) f4) (arg5.view.read (Elt F) f5) i := by
  rw [q_pieces, v969_eq, v978_eq, v981_eq]
  exact flatQ_read arg6.view _ _ (q3_read _ _ _ _ _ _ _ _ _)

/-- What the body leaves in `k`. -/
theorem k_read : arg7.view.read (Elt F) (body_runs.sl.H7_w24 c i arg1 arg2 arg3 arg4 arg5 arg7 harg7 arg9 arg11 arg12 arg13 f1 f2 f3 f4 f5 f7) =
    kB (arg1.view.read (Elt F) f1) (arg2.view.read (Elt F) f2) (arg3.view.read (Elt F) f3) (arg4.view.read (Elt F) f4) (arg5.view.read (Elt F) f5) i := by
  rw [k_pieces, v969_eq, v978_eq, v981_eq]
  exact flatK_read arg7.view _ _ (k3_read _ _ _ _ _ _ _ _ _)

/-- What the body leaves in `v`. -/
theorem v_read : arg8.view.read (Elt F) (body_runs.sl.H8_w28 c arg1 arg2 arg4 arg5 arg8 harg8 arg9 arg13 f1 f2 f4 f5 f8) =
    vB (arg1.view.read (Elt F) f1) (arg2.view.read (Elt F) f2) (arg4.view.read (Elt F) f4) (arg5.view.read (Elt F) f5) := by
  rw [v_pieces, v969_eq, v951_eq]
  exact flatK_read arg8.view _ _ (v3_read _ _ _ _ _ _ _ _)

end Stores

end Cert.KernelIdeal.Hand

end
-- ==== Proof.ScaleRow.lean ====
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The scales laid along the lanes -/

/-- A tile of 128 rows of the scales. -/
def tileX (xs : Vec F S256x128 .f32) (k : ℕ) : Vec F S128x128 .f32 :=
  fun j => xs (ix2 ⟨128 * (k % 2) + (j 0).val, by have : (j 0).val < 128 := (j 0).isLt; omega⟩ (j 1))

/-- The row of the 256 scales. -/
def scaleB (xs : Vec F S256x128 .f32) : Vec F S1x1x256 .f32 :=
  fun y => k0_pay88 (tileX xs ((y 2).val / 128)) (ix3 (y 0) (y 1) ⟨(y 2).val % 128, Nat.mod_lt _ (by decide)⟩)

/-- A group of 128 lanes lies in the row. -/
theorem inb_grp (k : ℕ) : ∀ a, ![0, 0, 128 * (k % 2)] a + S1x1x128.size a ≤ S1x1x256.size a := by
  intro a
  have : k % 2 < 2 := Nat.mod_lt _ (by decide)
  match a with
  | ⟨0, _⟩ => exact Nat.le_refl 1
  | ⟨1, _⟩ => exact Nat.le_refl 1
  | ⟨2, _⟩ => show 128 * (k % 2) + 128 ≤ 256; omega

/-- A group of 128 rows lies in the block. -/
theorem inb_tile (k : ℕ) : ∀ a, ![128 * (k % 2), 0] a + S128x128.size a ≤ S256x128.size a := by
  intro a
  have : k % 2 < 2 := Nat.mod_lt _ (by decide)
  match a with
  | ⟨0, _⟩ => show 128 * (k % 2) + 128 ≤ 256; omega
  | ⟨1, _⟩ => exact Nat.le_refl 128

/-- The `k`-th store of the row of scales, from what the scratch holds. -/
def rowP (v : View sig .tc .vmem S256x128 .f32) (L : List (View.Piece (Elt F) S256x128 .f32)) (k : ℕ) : View.Piece (Elt F) S1x1x256 .f32 :=
  ⟨Rect.unit (s := S1x1x256) ![0, 0, 128 * (k % 2)] S1x1x128.size (inb_grp k),
    k0_pay88 (v.readCov L (Rect.unit (s := S256x128) ![128 * (k % 2), 0] S128x128.size (inb_tile k)).toLoadRect)⟩

/-- What the two stores of the row of scales leave. -/
theorem row_read (v : View sig .tc .vmem S1x1x256 .f32) (f : v.ty.Contents (Elt F)) (v13 : View sig .tc .vmem S256x128 .f32)
    (arg1 : Memref sig .tc .vmem S256x5120 .bf16) (f1 : BufTy.Contents (Elt F) arg1.view.ty) (arg2 : Memref sig .tc .vmem S1x5120 .f32)
    (f2 : BufTy.Contents (Elt F) arg2.view.ty) :
    v.read (Elt F) (v.writes (Elt F) f (down (rowP v13 (down (xsP arg1 f1 (gainL arg2 f2)) 8)) 2)) =
      scaleB (xsB (arg2.view.read (Elt F) f2) (arg1.view.read (Elt F) f1)) := by
  rw [gain_load]
  refine read_down v f _ _ 2 ?_ ?_
  · intro k hk (x : S1x1x128.Idx)
    have h0 : (x 2).val < 128 := (x 2).isLt
    show k0_pay88 _ x = k0_pay88 _ _
    congr 1
    · have e : v13.readCov (down (xsP arg1 f1 (arg2.view.read (Elt F) f2)) 8)
          (Rect.unit (s := S256x128) ![128 * (k % 2), 0] S128x128.size (inb_tile k)).toLoadRect =
          tileX (xsB (arg2.view.read (Elt F) f2) (arg1.view.read (Elt F) f1)) k := by
        funext j
        unfold View.readCov tileX
        rw [← xs_read v13 v13.junk]
        show v13.read (Elt F) _ _ = v13.read (Elt F) _ _
        congr 1
        funext a
        match a with
        | ⟨0, _⟩ => apply Fin.ext; show 128 * (k % 2) + 1 * (j 0).val = 128 * (k % 2) + (j 0).val; omega
        | ⟨1, _⟩ => apply Fin.ext; show 0 + 1 * (j 1).val = (j 1).val; omega
      rw [e]
      congr 1
      show k = (128 * (k % 2) + 1 * (x 2).val) / 128
      omega
    · funext a
      match a with
      | ⟨0, _⟩ => apply Fin.ext; show (x 0).val = 0 + 1 * (x 0).val; omega
      | ⟨1, _⟩ => apply Fin.ext; show (x 1).val = 0 + 1 * (x 1).val; omega
      | ⟨2, _⟩ => apply Fin.ext; show (x 2).val = (128 * (k % 2) + 1 * (x 2).val) % 128; omega
  · intro y
    have h0 : (y 2).val < 256 := (y 2).isLt
    refine ⟨(y 2).val / 128, by omega, (ix3 (y 0) (y 1) ⟨(y 2).val % 128, Nat.mod_lt _ (by decide)⟩ : S1x1x128.Idx), ?_⟩
    funext a
    match a with
    | ⟨0, _⟩ => apply Fin.ext; show 0 + 1 * (y 0).val = (y 0).val; omega
    | ⟨1, _⟩ => apply Fin.ext; show 0 + 1 * (y 1).val = (y 1).val; omega
    | ⟨2, _⟩ => apply Fin.ext; show 128 * ((y 2).val / 128 % 2) + 1 * ((y 2).val % 128) = (y 2).val; omega

end Cert.KernelIdeal.Hand

end
-- ==== Proof.Pow2.lean ====
module

public import Idealize.ShloMosaic.PureOps.Ideal
public import Idealize.ShloMosaic.Lib.Pipeline.ValueKit

@[expose] public section

set_option maxRecDepth 16384

noncomputable section

namespace Cert.Pow2

open Idealize.ShloMosaic

/-! ## Powers of two by their exponent field and by their exponent -/

/-- The number whose exponent field is `f` and whose other bits are zero. -/
def val (f : BitVec 32) : EReal := Ideal.ieee 8 23 (f <<< 23)

/-- One bit of the search for the greatest field whose power of two is at most `a`. -/
def step (p : BitVec 32 → Prop) [DecidablePred p] (bit f : BitVec 32) : BitVec 32 := if p (f ||| bit) then f ||| bit else f

/-- The eight bits of the search, the highest first. -/
def search (p : BitVec 32 → Prop) [DecidablePred p] : BitVec 32 :=
  step p 1#32 (step p 2#32 (step p 4#32 (step p 8#32 (step p 16#32 (step p 32#32 (step p 64#32 (step p 128#32 0#32)))))))

/-- The field of `a` found by search. -/
def field (a : EReal) : BitVec 32 := search fun f => val f ≤ a

/-- The scale of a field. -/
def scaleOf (f : BitVec 32) : EReal := val (if f = 0#32 ∨ f = 255#32 then 127#32 else f + 1#32)

/-- The inverse scale of a field. -/
def invOf (f : BitVec 32) : EReal :=
  val (if f = 0#32 ∨ f = 255#32 then 127#32 else IntOp.maxsi (253#32 - f) 0#32)

/-- The number of powers of two from `2^-126` on that are at most `a`. -/
def count (a : EReal) : ℕ := (Finset.univ.filter fun k : Fin 254 => Ideal.pow 2 (((k.val : ℝ) - 126 : ℝ) : EReal) ≤ a).card

/-- The exponent of `a`, zero for an infinity and below the least normal number. -/
def expo (a : EReal) : BitVec 32 := if a < val 1#32 ∨ a = ⊤ then 0#32 else BitVec.ofNat 32 (count a) - 126#32

/-- Two to an exponent, infinite above the range and zero below it. -/
def powOf (e : BitVec 32) : EReal :=
  if 127 < e.toInt then ⊤ else if e.toInt < -126 then 0 else Ideal.pow 2 ((e.toInt : ℝ) : EReal)

/-- The value of a field strictly between 0 and 255. -/
theorem val_mid (n : ℕ) (h1 : 1 ≤ n) (h2 : n ≤ 254) : val (BitVec.ofNat 32 n) = (((2 : ℝ) ^ ((n : ℤ) - 127) : ℝ) : EReal) := by
  have hx : ((BitVec.ofNat 32 n <<< 23).extractLsb' 23 8).toNat = n := by
    have : ∀ k : Fin 255, ((BitVec.ofNat 32 k.val <<< 23).extractLsb' 23 8).toNat = k.val := by decide +kernel
    exact this ⟨n, by omega⟩
  have hf : ((BitVec.ofNat 32 n <<< 23).extractLsb' 0 23).toNat = 0 := by
    have : ∀ k : Fin 255, ((BitVec.ofNat 32 k.val <<< 23).extractLsb' 0 23).toNat = 0 := by decide +kernel
    exact this ⟨n, by omega⟩
  have hs : ((BitVec.ofNat 32 n <<< 23).extractLsb' 31 1 == 1#1) = false := by
    have : ∀ k : Fin 255, ((BitVec.ofNat 32 k.val <<< 23).extractLsb' 31 1 == 1#1) = false := by decide +kernel
    exact this ⟨n, by omega⟩
  unfold val Ideal.ieee
  simp only [hx, hf, hs]
  rw [if_neg (by omega), if_neg (by omega)]
  refine congrArg (fun r : ℝ => (r : EReal)) ?_
  rw [if_neg (by decide), one_mul, Nat.add_zero, Nat.cast_pow, Nat.cast_ofNat, ← zpow_natCast, ← zpow_add₀ (by norm_num)]
  refine congrArg (fun z : ℤ => (2 : ℝ) ^ z) ?_
  omega

/-- The value of field 0. -/
theorem val_zero : val 0#32 = 0 := by
  unfold val Ideal.ieee
  simp

/-- The value of field 255. -/
theorem val_top : val 255#32 = ⊤ := by
  have hx : ((255#32 <<< 23).extractLsb' 23 8).toNat = 255 := by decide
  have hf : ((255#32 <<< 23).extractLsb' 0 23).toNat = 0 := by decide
  have hs : ((255#32 <<< 23).extractLsb' 31 1 == 1#1) = false := by decide
  unfold val Ideal.ieee
  simp only [hx, hf, hs]
  simp

/-- Greater fields have greater values. -/
theorem val_mono (n k : ℕ) (h1 : 1 ≤ n) (h : n < k) (h2 : k ≤ 255) : val (BitVec.ofNat 32 n) < val (BitVec.ofNat 32 k) := by
  rw [val_mid n h1 (by omega)]
  rcases Nat.lt_or_ge k 255 with hk | hk
  · rw [val_mid k (by omega) (by omega), EReal.coe_lt_coe_iff]
    exact zpow_lt_zpow_right₀ (by norm_num) (by omega)
  · obtain rfl : k = 255 := by omega
    rw [val_top]
    exact EReal.coe_lt_top _

/-- Two to an integer. -/
theorem pow_two (z : ℤ) : Ideal.pow 2 ((z : ℝ) : EReal) = (((2 : ℝ) ^ z : ℝ) : EReal) := by
  show Ideal.pow ((2 : ℝ) : EReal) ((z : ℝ) : EReal) = _
  unfold Ideal.pow
  show ((Real.rpow 2 (z : ℝ) : ℝ) : EReal) = _
  congr 1
  exact Real.rpow_intCast 2 z

/-! ## The search finds the field -/

/-- Searches agree when their tests agree from 1 to 255. -/
theorem step_congr (p q : BitVec 32 → Prop) [DecidablePred p] [DecidablePred q]
    (h : ∀ f : BitVec 32, 1 ≤ f.toNat → f.toNat ≤ 255 → (p f ↔ q f)) (bit f g : BitVec 32) (hb : 1 ≤ bit.toNat) (hb2 : bit.toNat < 256)
    (hf : f.toNat < 256 ∧ f = g) : (step p bit f).toNat < 256 ∧ step p bit f = step q bit g := by
  obtain ⟨hf, rfl⟩ := hf
  have ho : (f ||| bit).toNat < 2 ^ 8 := by rw [BitVec.toNat_or]; exact Nat.or_lt_two_pow hf hb2
  have ho1 : 1 ≤ (f ||| bit).toNat := by rw [BitVec.toNat_or]; exact hb.trans Nat.right_le_or
  have := h _ ho1 (by omega)
  unfold step
  by_cases hp : p (f ||| bit)
  · rw [if_pos hp, if_pos (this.mp hp)]; exact ⟨ho, rfl⟩
  · rw [if_neg hp, if_neg (fun h => hp (this.mpr h))]; exact ⟨hf, rfl⟩

/-- The same of the whole search. -/
theorem search_congr (p q : BitVec 32 → Prop) [DecidablePred p] [DecidablePred q]
    (h : ∀ f : BitVec 32, 1 ≤ f.toNat → f.toNat ≤ 255 → (p f ↔ q f)) : search p = search q := by
  unfold search
  refine (step_congr p q h _ _ _ (by decide) (by decide) ?_).2
  refine step_congr p q h _ _ _ (by decide) (by decide) ?_
  refine step_congr p q h _ _ _ (by decide) (by decide) ?_
  refine step_congr p q h _ _ _ (by decide) (by decide) ?_
  refine step_congr p q h _ _ _ (by decide) (by decide) ?_
  refine step_congr p q h _ _ _ (by decide) (by decide) ?_
  refine step_congr p q h _ _ _ (by decide) (by decide) ?_
  exact step_congr p q h _ _ _ (by decide) (by decide) ⟨by decide, rfl⟩

/-- Searching by "at most `b`" finds `b`. -/
theorem search_le : ∀ b : Fin 256, (search fun f => f.toNat ≤ b.val) = BitVec.ofNat 32 b.val := by decide +kernel

/-- The field is the `b` with `a` between its value and the next. -/
theorem field_eq (a : EReal) (b : ℕ) (hb : b ≤ 255) (hlo : 1 ≤ b → val (BitVec.ofNat 32 b) ≤ a)
    (hhi : b < 255 → a < val (BitVec.ofNat 32 (b + 1))) : field a = BitVec.ofNat 32 b := by
  refine Eq.trans (search_congr _ (fun f => f.toNat ≤ b) fun f h1 h2 => ?_) (search_le ⟨b, by omega⟩)
  have hf : BitVec.ofNat 32 f.toNat = f := by simp
  constructor
  · intro h
    by_contra hc
    have hlt := hhi (by omega)
    rcases Nat.lt_or_ge (b + 1) f.toNat with hk | hk
    · have := val_mono (b + 1) f.toNat (by omega) hk h2
      rw [hf] at this
      exact absurd h (not_le.mpr (hlt.trans this))
    · have e : f.toNat = b + 1 := by omega
      rw [← e, hf] at hlt
      exact absurd h (not_le.mpr hlt)
  · intro h
    have hl := hlo (by omega)
    rcases Nat.lt_or_ge f.toNat b with hk | hk
    · have := val_mono f.toNat b h1 hk hb
      rw [hf] at this
      exact this.le.trans hl
    · have e : f.toNat = b := by omega
      rw [← e, hf] at hl
      exact hl

/-- Every number from the least normal one up to infinity lies between a field's value and the next. -/
theorem exists_field (a : EReal) (h1 : val 1#32 ≤ a) (h2 : a ≠ ⊤) :
    ∃ b, 1 ≤ b ∧ b ≤ 254 ∧ val (BitVec.ofNat 32 b) ≤ a ∧ a < val (BitVec.ofNat 32 (b + 1)) := by
  classical
  have hex : ∃ n, a < val (BitVec.ofNat 32 (n + 1)) := ⟨254, by
    show a < val 255#32
    rw [val_top]; exact lt_top_iff_ne_top.mpr h2⟩
  refine ⟨Nat.find hex, ?_, Nat.find_min' hex ?_, ?_, Nat.find_spec hex⟩
  · by_contra hc
    have e : Nat.find hex = 0 := by omega
    have := Nat.find_spec hex
    rw [e] at this
    exact absurd h1 (not_le.mpr this)
  · show a < val 255#32
    rw [val_top]; exact lt_top_iff_ne_top.mpr h2
  · by_contra hc
    have hpos : Nat.find hex ≠ 0 := by
      intro e
      have := Nat.find_spec hex
      rw [e] at this
      exact absurd h1 (not_le.mpr this)
    obtain ⟨k, hk⟩ := Nat.exists_eq_succ_of_ne_zero hpos
    rw [hk] at hc
    have := Nat.find_min' hex (not_le.mp hc)
    omega

/-- The count of the powers at most `a` is the field. -/
theorem count_eq (a : EReal) (b : ℕ) (h1 : 1 ≤ b) (h2 : b ≤ 254) (hlo : val (BitVec.ofNat 32 b) ≤ a)
    (hhi : a < val (BitVec.ofNat 32 (b + 1))) : count a = b := by
  unfold count
  have : (Finset.univ.filter fun k : Fin 254 => Ideal.pow 2 (((k.val : ℝ) - 126 : ℝ) : EReal) ≤ a) =
      Finset.univ.filter fun k : Fin 254 => k.val < b := by
    apply Finset.filter_congr
    intro k _
    have hk := k.isLt
    have e : Ideal.pow 2 (((k.val : ℝ) - 126 : ℝ) : EReal) = val (BitVec.ofNat 32 (k.val + 1)) := by
      rw [val_mid _ (by omega) (by omega), show ((k.val : ℝ) - 126 : ℝ) = (((k.val : ℤ) - 126 : ℤ) : ℝ) by push_cast; ring, pow_two]
      congr 2
      push_cast
      ring
    rw [e]
    constructor
    · intro h
      by_contra hc
      rcases Nat.lt_or_ge b k.val with hb | hb
      · exact absurd (h.trans_lt hhi) (not_lt.mpr (val_mono (b + 1) (k.val + 1) (by omega) (by omega) (by omega)).le)
      · have e : k.val = b := by omega
        rw [e] at h
        exact absurd h (not_le.mpr hhi)
    · intro h
      rcases Nat.lt_or_ge (k.val + 1) b with hb | hb
      · exact (val_mono (k.val + 1) b (by omega) hb (by omega)).le.trans hlo
      · rw [show k.val + 1 = b by omega]; exact hlo
  rw [this]
  exact Fin.card_filter_val_lt.trans (by omega)

/-- The value of 127. -/
theorem val_127 : val 127#32 = 1 := by
  have := val_mid 127 (by omega) (by omega)
  rw [show (127#32 : BitVec 32) = BitVec.ofNat 32 127 from rfl, this]
  norm_num

/-- Two to the zero. -/
theorem powOf_zero : powOf 0#32 = 1 := by
  unfold powOf
  rw [if_neg (by decide), if_neg (by decide), pow_two]
  norm_num

/-- The scale of the searched field is two to the counted exponent. -/
theorem scale_eq (a : EReal) : scaleOf (field a) = powOf (expo a) ∧ invOf (field a) = powOf (-(expo a)) := by
  by_cases hlt : a < val 1#32
  · rw [field_eq a 0 (by omega) (by omega) (fun _ => hlt)]
    have e : expo a = 0#32 := if_pos (.inl hlt)
    rw [e]
    exact ⟨val_127.trans powOf_zero.symm, val_127.trans powOf_zero.symm⟩
  by_cases htop : a = ⊤
  · rw [field_eq a 255 (by omega) (fun _ => by rw [htop]; exact le_top) (by omega)]
    have e : expo a = 0#32 := if_pos (.inr htop)
    rw [e]
    exact ⟨val_127.trans powOf_zero.symm, val_127.trans powOf_zero.symm⟩
  obtain ⟨b, h1, h2, hlo, hhi⟩ := exists_field a (not_lt.mp hlt) htop
  have e : expo a = BitVec.ofNat 32 b - 126#32 := by
    unfold expo
    rw [if_neg (by rintro (h | h); exacts [hlt h, htop h]), count_eq a b h1 h2 hlo hhi]
  rw [field_eq a b (by omega) (fun _ => hlo) (fun _ => hhi), e]
  have hu : ¬(BitVec.ofNat 32 b = 0#32 ∨ BitVec.ofNat 32 b = 255#32) := by
    have : ∀ k : Fin 255, 1 ≤ k.val → ¬(BitVec.ofNat 32 k.val = 0#32 ∨ BitVec.ofNat 32 k.val = 255#32) := by decide +kernel
    exact this ⟨b, by omega⟩ h1
  have ht : (BitVec.ofNat 32 b - 126#32).toInt = (b : ℤ) - 126 := by
    have : ∀ k : Fin 255, (BitVec.ofNat 32 k.val - 126#32).toInt = (k.val : ℤ) - 126 := by decide +kernel
    exact this ⟨b, by omega⟩
  have hn : (-(BitVec.ofNat 32 b - 126#32)).toInt = 126 - (b : ℤ) := by
    have : ∀ k : Fin 255, (-(BitVec.ofNat 32 k.val - 126#32)).toInt = 126 - (k.val : ℤ) := by decide +kernel
    exact this ⟨b, by omega⟩
  have hm : IntOp.maxsi (253#32 - BitVec.ofNat 32 b) 0#32 = BitVec.ofNat 32 (253 - b) := by
    have : ∀ k : Fin 255, IntOp.maxsi (253#32 - BitVec.ofNat 32 k.val) 0#32 = BitVec.ofNat 32 (253 - k.val) := by decide +kernel
    exact this ⟨b, by omega⟩
  have hp : BitVec.ofNat 32 b + 1#32 = BitVec.ofNat 32 (b + 1) := by rw [BitVec.ofNat_add]
  unfold scaleOf invOf powOf
  rw [if_neg hu, if_neg hu, ht, hn, hm, hp]
  constructor
  · by_cases hb : b = 254
    · subst hb
      rw [if_pos (by omega)]
      exact val_top
    · rw [if_neg (by omega), if_neg (by omega), pow_two, val_mid _ (by omega) (by omega)]
      congr 2
      push_cast
      ring
  · rw [if_neg (by omega)]
    by_cases hb : 253 ≤ b
    · rw [if_pos (by omega), show 253 - b = 0 by omega]
      exact val_zero
    · rw [if_neg (by omega), pow_two, val_mid _ (by omega) (by omega)]
      congr 2
      omega

end Cert.Pow2

end
-- ==== Proof.Spec.lean ====
module

public import proofs.«01_k».proof.Proof.Pow2

@[expose] public section

set_option maxRecDepth 16384

noncomputable section

namespace Cert.Spec

open Idealize.ShloMosaic

/-! ## One token's numbers -/

/-- One normalised activation: the row `x` over its root mean square, times the gain. -/
def hS (x g : Fin 5120 → EReal) (l : Fin 5120) : EReal :=
  x l * Ideal.rsqrt (Ideal.div (∑ k, x k * x k) (Ideal.ofBits .f32 0x45A00000#32) + Ideal.ofBits .f32 0x358637BD#32) * g l

/-- The greatest magnitude of the row over the greatest code. -/
def aS (x g : Fin 5120 → EReal) : EReal :=
  (Finset.univ.fold max (Ideal.ofBits .f32 0xFF800000#32) fun k => max (hS x g k) (-(hS x g k))) * Ideal.ofBits .f32 0x3B124925#32

/-- The row's scale. -/
def scS (x g : Fin 5120 → EReal) : EReal := Pow2.scaleOf (Pow2.field (aS x g))

/-- The row's inverse scale. -/
def invS (x g : Fin 5120 → EReal) : EReal := Pow2.invOf (Pow2.field (aS x g))

/-- One code of the row. -/
def cdS (x g : Fin 5120 → EReal) (l : Fin 5120) : EReal :=
  min (Ideal.ofBits .f32 0x43E00000#32) (max (Ideal.ofBits .f32 0xC3E00000#32) (hS x g l * invS x g))

/-- The row's codes times one column of the weights. -/
def accS (x g w : Fin 5120 → EReal) : EReal := ∑ k, cdS x g k * w k

/-- The product with both scales. -/
def tS (x g w : Fin 5120 → EReal) (s : EReal) : EReal := accS x g w * scS x g * s

/-- The angle of a position at a pair of lanes. -/
def angS (p : BitVec 32) (j : Fin 64) : EReal :=
  ((p.toInt : ℝ) : EReal) * Ideal.div 1 (Ideal.pow (Ideal.ofBits .f32 0x461C4000#32)
    (Ideal.div (((j.val : ℝ) : EReal) * Ideal.ofBits .f32 0x40000000#32) (Ideal.ofBits .f32 0x43000000#32)))

/-- The lane's pair. -/
def half (l : Fin 128) : Fin 64 := ⟨l.val % 64, Nat.mod_lt _ (by decide)⟩

/-- The lane half a turn away. -/
def turn (l : Fin 128) : Fin 128 := ⟨(l.val + 64) % 128, Nat.mod_lt _ (by decide)⟩

/-- One lane of a head with the rope applied. -/
def ropeS (t : Fin 128 → EReal) (p : BitVec 32) (l : Fin 128) : EReal :=
  t l * Ideal.cos (angS p (half l)) + (if l.val < 64 then -(t (turn l)) else t (turn l)) * Ideal.sin (angS p (half l))

/-- The same with the row's scale in the tables, as the kernel has it. -/
theorem rope_scaled (u : Fin 128 → EReal) (c : EReal) (p : BitVec 32) (l : Fin 128) :
    u l * (Ideal.cos (angS p (half l)) * c) +
      u (turn l) * ((if l.val < 64 then 0 - Ideal.sin (angS p (half l)) else Ideal.sin (angS p (half l))) * c) =
    ropeS (fun l => u l * c) p l := by
  unfold ropeS
  congr 1
  · rw [mul_comm (Ideal.cos _) c, mul_assoc]
  · by_cases h : l.val < 64
    · rw [if_pos h, if_pos h, zero_sub, neg_mul, neg_mul, mul_neg, mul_comm (Ideal.sin _) c, mul_assoc]
    · rw [if_neg h, if_neg h, mul_comm (Ideal.sin _) c, mul_assoc]

/-- The scales in the other order. -/
theorem t_comm (x g w : Fin 5120 → EReal) (s : EReal) : accS x g w * s * scS x g = tS x g w s := by
  unfold tS
  rw [mul_assoc, mul_comm s, ← mul_assoc]

/-- Column `n` of a row of the product with both scales. -/
def colS (x g : Fin 5120 → EReal) (w : Fin 5120 → Fin 7168 → EReal) (s : Fin 7168 → EReal) (n : ℕ) : EReal :=
  tS x g (fun k => w k ⟨n % 7168, Nat.mod_lt _ (by decide)⟩) (s ⟨n % 7168, Nat.mod_lt _ (by decide)⟩)

/-- A lane of head `h` of a row with the rope applied. -/
def headS (x g : Fin 5120 → EReal) (w : Fin 5120 → Fin 7168 → EReal) (s : Fin 7168 → EReal) (p : BitVec 32) (h : ℕ) (l : Fin 128) : EReal :=
  ropeS (fun l => colS x g w s (128 * h + l.val)) p l

end Cert.Spec

end
-- ==== Proof.KernelPoint.lean ====
module

public import proofs.«01_k».proof.Proof.Heads
public import proofs.«01_k».proof.Proof.ScaleRow
public import proofs.«01_k».proof.Proof.Spec
public import Idealize.ShloMosaic.Lib.Pointwise

@[expose] public section

set_option maxRecDepth 16384

noncomputable section

namespace Cert.KernelIdeal.Val

open Cert.KernelIdeal Cert.KernelIdeal.Gen Cert.KernelIdeal.Hand Cert.Spec
open Idealize.ShloMosaic Idealize.ShloMosaic.TcCoe

/-! ## The kernel's blocks at an index -/

/-- A normalised activation of a chunk. -/
theorem pay3_at (g : Vec Ideal S1x5120 .f32) (v : Vec Ideal S32x5120 .bf16) (r : Fin 32) (l : Fin 5120) :
    k0_pay3 g v (ix2 r l) = hS (fun k => v (ix2 r k)) (fun k => g (ix2 0 k)) l := by
  pointwise [k0_pay3, k0_pay2, hS]

/-- The greatest magnitude of a chunk's row over the greatest code. -/
theorem pay4_at (g : Vec Ideal S1x5120 .f32) (v : Vec Ideal S32x5120 .bf16) (r : Fin 32) :
    k0_pay4 g v (ix2 r 0) = aS (fun k => v (ix2 r k)) (fun k => g (ix2 0 k)) := by
  pointwise [k0_pay4, aS]
  simp only [pay3_at]
  rfl

/-- A comparison selecting between two words. -/
theorem step_at (bit : BitVec 32) (a : FVec Ideal S32x1 .f32) (f : IVec S32x1 32) (j : S32x1.Idx) :
    stepF bit a f j = Pow2.step (fun f => Pow2.val f ≤ a j) bit (f j) := by
  unfold stepF Pow2.step
  show (if Ideal.cmp .oge (a j) _ = 1#1 then _ else _) = _
  by_cases h : Pow2.val (f j ||| bit) ≤ a j
  · rw [if_pos h]
    exact if_pos (by show BitVec.ofBool (decide (Pow2.val (f j ||| bit) ≤ a j)) = 1#1; rw [decide_eq_true h]; rfl)
  · rw [if_neg h]
    exact if_neg (by show ¬ BitVec.ofBool (decide (Pow2.val (f j ||| bit) ≤ a j)) = 1#1; rw [decide_eq_false h]; decide)

/-- The search for the field, element by element. -/
theorem field_at (a : FVec Ideal S32x1 .f32) (j : S32x1.Idx) : fieldF a j = Pow2.field (a j) := by
  unfold fieldF
  simp only [step_at]
  rfl

/-- Field 0 or 255. -/
theorem unit_at (f : IVec S32x1 32) (j : S32x1.Idx) : unitF f j = 1#1 ↔ f j = 0#32 ∨ f j = 255#32 := by
  show (BitVec.ofBool (f j == 0#32) ||| BitVec.ofBool (f j == 255#32)) = 1#1 ↔ _
  by_cases h0 : f j = 0#32
  · simp [h0]
  · by_cases h1 : f j = 255#32
    · simp [h1]
    · have e0 : (f j == 0#32) = false := by simpa using h0
      have e1 : (f j == 255#32) = false := by simpa using h1
      rw [e0, e1]
      simp [h0, h1]

/-- The scale of a field, element by element. -/
theorem scale_at (f : IVec S32x1 32) (j : S32x1.Idx) : scaleF (F := Ideal) f j = Pow2.scaleOf (f j) := by
  show Pow2.val (if unitF f j = 1#1 then 127#32 else f j + 1#32) = Pow2.val _
  simp only [unit_at]

/-- The inverse scale of a field, element by element. -/
theorem inv_at (f : IVec S32x1 32) (j : S32x1.Idx) : invF (F := Ideal) f j = Pow2.invOf (f j) := by
  show Pow2.val (if unitF f j = 1#1 then 127#32 else IntOp.maxsi (253#32 - f j) 0#32) = Pow2.val _
  simp only [unit_at]

/-- A code of a chunk. -/
theorem codesC_at (g : Vec Ideal S1x5120 .f32) (v : Vec Ideal S32x5120 .bf16) (r : Fin 32) (l : Fin 5120) :
    codesC g v (ix2 r l) = cdS (fun k => v (ix2 r k)) (fun k => g (ix2 0 k)) l := by
  pointwise [codesC, cdS, invS]
  rw [pay3_at, inv_at, field_at, pay4_at]

/-- A scale of a chunk. -/
theorem xsC_at (g : Vec Ideal S1x5120 .f32) (v : Vec Ideal S32x5120 .bf16) (r : Fin 32) (l : Fin 128) :
    xsC g v (ix2 r l) = scS (fun k => v (ix2 r k)) (fun k => g (ix2 0 k)) := by
  pointwise [xsC, k0_pay87, scS]
  rw [scale_at, field_at, pay4_at]

/-- A row of a chunk of 32 is a row of the block. -/
theorem rows_at (x : Vec Ideal S256x5120 .bf16) (r : Fin 256) :
    (fun k => rowsC x ⟨r.val / 32, by omega⟩ (ix2 ⟨r.val % 32, Nat.mod_lt _ (by decide)⟩ k)) = fun k => x (ix2 r k) := by
  funext k
  show x (ix2 _ _) = x (ix2 r k)
  congr 2
  apply Fin.ext
  show 32 * (r.val / 32) + r.val % 32 = r.val
  omega

/-- A code of a block. -/
theorem codesB_at (g : Vec Ideal S1x5120 .f32) (x : Vec Ideal S256x5120 .bf16) (r : Fin 256) (l : Fin 5120) :
    codesB g x (ix2 r l) = cdS (fun k => x (ix2 r k)) (fun k => g (ix2 0 k)) l := by
  show codesC g _ (ix2 _ l) = _
  rw [codesC_at]
  exact congrArg (fun u => cdS u _ l) (rows_at x r)

/-- A scale of a block. -/
theorem xsB_at (g : Vec Ideal S1x5120 .f32) (x : Vec Ideal S256x5120 .bf16) (r : Fin 256) (l : Fin 128) :
    xsB g x (ix2 r l) = scS (fun k => x (ix2 r k)) (fun k => g (ix2 0 k)) := by
  show xsC g _ (ix2 _ l) = _
  rw [xsC_at]
  exact congrArg (fun u => scS u _) (rows_at x r)

/-- The column of scales turned into a row. -/
theorem pay88_at (v : Vec Ideal S128x128 .f32) (j : Fin 128) : k0_pay88 v (ix3 0 0 j) = v (ix2 j j) := by
  pointwise [k0_pay88]
  rw [Finset.sum_eq_single j]
  · exact if_pos (by simp [IntOp.cmpi])
  · intro k _ hk
    refine if_neg ?_
    have e : (BitVec.ofNat 32 k.val == BitVec.ofNat 32 j.val) = false := by
      rw [beq_eq_false_iff_ne]
      intro h
      have h2 := congrArg BitVec.toNat h
      rw [BitVec.toNat_ofNat, BitVec.toNat_ofNat, Nat.mod_eq_of_lt (by omega), Nat.mod_eq_of_lt (by omega)] at h2
      exact hk (Fin.ext h2)
    show ¬ BitVec.ofBool (BitVec.ofNat 32 k.val == BitVec.ofNat 32 j.val) = 1#1
    rw [e]
    decide
  · intro h
    exact absurd (Finset.mem_univ _) h

/-- A scale of the row of 256. -/
theorem scaleB_at (g : Vec Ideal S1x5120 .f32) (x : Vec Ideal S256x5120 .bf16) (a b : Fin 1) (r : Fin 256) :
    scaleB (xsB g x) (ix3 a b r) = scS (fun k => x (ix2 r k)) (fun k => g (ix2 0 k)) := by
  obtain rfl : a = 0 := Subsingleton.elim _ _
  obtain rfl : b = 0 := Subsingleton.elim _ _
  show k0_pay88 _ (ix3 0 0 _) = _
  rw [pay88_at]
  show xsB g x (ix2 (⟨128 * (r.val / 128 % 2) + r.val % 128, by omega⟩ : Fin 256) (⟨r.val % 128, by omega⟩ : Fin 128)) = _
  rw [xsB_at]
  congr 1
  funext k
  congr 2
  apply Fin.ext
  show 128 * (r.val / 128 % 2) + r.val % 128 = r.val
  omega

/-- The angles. -/
theorem pay90_at (p : Vec Ideal S1x256 .i32) (r : Fin 256) (l : Fin 128) :
    k0_pay90 p (ix2 r l) = angS (p (ix2 0 r)) (half l) := by
  pointwise [k0_pay90, angS]
  have e : ∀ l : Fin 128, (IntOp.andi (BitVec.ofNat 32 l.val) 63#32).toInt = ((l.val % 64 : ℕ) : ℤ) := by decide +kernel
  have e2 : (FloatOps.sitofp FTy.f32 (IntOp.andi (BitVec.ofNat 32 l.val) 63#32) : Idealize.ShloMosaic.Ideal .f32) = (((half l).val : ℝ) : EReal) := by
    show (((IntOp.andi (BitVec.ofNat 32 l.val) 63#32).toInt : ℝ) : EReal) = _
    rw [e l, Int.cast_natCast]
    rfl
  rw [e2]
  rfl

/-- The cosines times the scale. -/
theorem cosB_at (g : Vec Ideal S1x5120 .f32) (x : Vec Ideal S256x5120 .bf16) (x2 : Vec Ideal S3x256 .i32) (i : grid0.Coords)
    (r : Fin 256) (l : Fin 128) : cosB g x x2 i (ix2 r l) =
      Ideal.cos (angS (posB x2 i (ix2 0 r)) (half l)) * scS (fun k => x (ix2 r k)) (fun k => g (ix2 0 k)) := by
  pointwise [cosB, k0_pay93, k0_pay92]
  rw [xsB_at, pay90_at]

/-- The signed sines times the scale. -/
theorem sinB_at (g : Vec Ideal S1x5120 .f32) (x : Vec Ideal S256x5120 .bf16) (x2 : Vec Ideal S3x256 .i32) (i : grid0.Coords)
    (r : Fin 256) (l : Fin 128) : sinB g x x2 i (ix2 r l) =
      (if l.val < 64 then 0 - Ideal.sin (angS (posB x2 i (ix2 0 r)) (half l)) else Ideal.sin (angS (posB x2 i (ix2 0 r)) (half l))) *
        scS (fun k => x (ix2 r k)) (fun k => g (ix2 0 k)) := by
  pointwise [sinB, k0_pay94, k0_pay91]
  rw [xsB_at, pay90_at]
  have e : ∀ l : Fin 128, IntOp.cmpi CmpIPredicate.slt (BitVec.ofNat 32 l.val) 64#32 = 1#1 ↔ l.val < 64 := by decide +kernel
  congr 1
  show (if _ = 1#1 then _ else _) = _
  simp only [e l]

/-- A chunk's product with the column scales. -/
theorem pay95_at (cd : Vec Ideal S256x5120 .fp8e4m3) (w : Vec Ideal S5120x1024 .fp8e4m3) (s : Vec Ideal S1x1024 .f32) (r : Fin 256) (n : Fin 1024) :
    k0_pay95 cd w s (ix2 r n) = (∑ k : Fin 5120, cd (ix2 r k) * w (ix2 k n)) * s (ix2 0 n) := by
  pointwise [k0_pay95]

/-- A lane of a head. -/
theorem slice_at (t : FVec Ideal S256x1024 .f32) (h : ℕ) (hh : h < 8) (r : Fin 256) (l : Fin 128) :
    extractStridedSlice S256x128 ![0, 128 * (h % 8)] t (slices_h h) (ix2 r l) = t (ix2 r ⟨128 * h + l.val, by omega⟩) := by
  show t _ = t _
  congr 1
  funext a
  match a with
  | ⟨0, _⟩ => apply Fin.ext; show 0 + r.val = r.val; omega
  | ⟨1, _⟩ => apply Fin.ext; show 128 * (h % 8) + l.val = 128 * h + l.val; omega

/-- A lane of a roped head. -/
theorem headC_at (t : FVec Ideal S256x1024 .f32) (h : ℕ) (hh : h < 8) (cs sn : Vec Ideal S256x128 .f32) (r : Fin 256) (l : Fin 128) :
    headC t h cs sn (ix2 r l) = t (ix2 r ⟨128 * h + l.val, by omega⟩) * cs (ix2 r l) +
      t (ix2 r ⟨128 * h + (turn l).val, by have := (turn l).isLt; omega⟩) * sn (ix2 r l) := by
  unfold headC
  pointwise
  have h8 : h % 8 = h := Nat.mod_eq_of_lt hh
  have e : ∀ l : Fin 128, (l.val + 128 - 64) % 128 = (turn l).val := by decide +kernel
  simp only [h8, e l]

/-- A lane of a head scaled alone. -/
theorem vheadC_at (t : FVec Ideal S256x1024 .f32) (h : ℕ) (hh : h < 8) (xs : Vec Ideal S256x128 .f32) (r : Fin 256) (l : Fin 128) :
    vheadC t h xs (ix2 r l) = t (ix2 r ⟨128 * h + l.val, by omega⟩) * xs (ix2 r l) := by
  unfold vheadC
  show extractStridedSlice _ _ _ _ _ * _ = _
  rw [slice_at _ _ hh]

/-- Two heads interleaved by rows. -/
theorem pay1_at (u v : FVec Ideal S256x128 .f32) (r : Fin 256) (b : Fin 2) (l : Fin 128) :
    k0_pay1 u v (ix3 r b l) = if b.val = 0 then u (ix2 r l) else v (ix2 r l) := by
  pointwise [k0_pay1]
  rw [Nat.mod_eq_of_lt b.isLt]

end Cert.KernelIdeal.Val

end
-- ==== Proof.KernelHeads.lean ====
module

public import proofs.«01_k».proof.Proof.KernelPoint

@[expose] public section

set_option maxRecDepth 16384

noncomputable section

namespace Cert.KernelIdeal.Val

open Cert.KernelIdeal Cert.KernelIdeal.Gen Cert.KernelIdeal.Hand Cert.Spec
open Idealize.ShloMosaic Idealize.ShloMosaic.TcCoe

/-! ## The blocks of `q`, `k` and `v` at an index -/

section Blocks

variable (x : Vec Ideal S256x5120 .bf16) (g : Vec Ideal S1x5120 .f32) (x2 : Vec Ideal S3x256 .i32) (x3 : Vec Ideal S5120x7168 .fp8e4m3)
  (x4 : Vec Ideal S1x7168 .f32) (i : grid0.Coords)

/-- A column of a chunk before the row's scale. -/
theorem chunk_at (n : ℕ) (hn : n < 7) (r : Fin 256) (j : Fin 1024) :
    k0_pay95 (codesB g x) (wC x3 n) (sC x4 n) (ix2 r j) * scS (fun k => x (ix2 r k)) (fun k => g (ix2 0 k)) =
      colS (fun k => x (ix2 r k)) (fun k => g (ix2 0 k)) (fun k n => x3 (ix2 k n)) (fun n => x4 (ix2 0 n)) (1024 * n + j.val) := by
  rw [pay95_at]
  simp only [codesB_at]
  unfold colS
  rw [← t_comm]
  have e : (⟨1024 * (n % 7) + j.val, by omega⟩ : Fin 7168) = ⟨(1024 * n + j.val) % 7168, Nat.mod_lt _ (by decide)⟩ :=
    Fin.ext (by show 1024 * (n % 7) + j.val = (1024 * n + j.val) % 7168; omega)
  have ew : ∀ k : Fin 5120, wC x3 n (ix2 k j) = x3 (ix2 k ⟨(1024 * n + j.val) % 7168, Nat.mod_lt _ (by decide)⟩) := by
    intro k
    rw [← e]
    rfl
  have es : sC x4 n (ix2 0 j) = x4 (ix2 0 ⟨(1024 * n + j.val) % 7168, Nat.mod_lt _ (by decide)⟩) := by
    rw [← e]
    rfl
  simp only [ew, es]
  rfl

/-- A lane of a roped head. -/
theorem head_at (n : ℕ) (hn : n < 7) (h : ℕ) (hh : h < 8) (r : Fin 256) (l : Fin 128) :
    headC (k0_pay95 (codesB g x) (wC x3 n) (sC x4 n)) h (cosB g x x2 i) (sinB g x x2 i) (ix2 r l) =
      headS (fun k => x (ix2 r k)) (fun k => g (ix2 0 k)) (fun k n => x3 (ix2 k n)) (fun n => x4 (ix2 0 n)) (posB x2 i (ix2 0 r)) (8 * n + h) l := by
  rw [headC_at _ _ hh, cosB_at, sinB_at]
  refine (rope_scaled (fun l => k0_pay95 (codesB g x) (wC x3 n) (sC x4 n) (ix2 r ⟨128 * h + l.val, by omega⟩)) _ _ l).trans ?_
  simp only [chunk_at x g x3 x4 n hn]
  unfold headS
  have e : ∀ l : Fin 128, 1024 * n + (128 * h + l.val) = 128 * (8 * n + h) + l.val := by omega
  simp only [e]

/-- A lane of a head scaled alone. -/
theorem vhead_at (n : ℕ) (hn : n < 7) (h : ℕ) (hh : h < 8) (r : Fin 256) (l : Fin 128) :
    vheadC (k0_pay95 (codesB g x) (wC x3 n) (sC x4 n)) h (xsB g x) (ix2 r l) =
      colS (fun k => x (ix2 r k)) (fun k => g (ix2 0 k)) (fun k n => x3 (ix2 k n)) (fun n => x4 (ix2 0 n)) (128 * (8 * n + h) + l.val) := by
  rw [vheadC_at _ _ hh, xsB_at, chunk_at x g x3 x4 n hn]
  congr 1
  show 1024 * n + (128 * h + l.val) = _
  omega

/-- A lane of `q`. -/
theorem qB_at (j : Fin 10240) (l : Fin 128) : qB x g x2 x3 x4 i (ix2 j l) =
    headS (fun k => x (ix2 ⟨j.val / 40, by omega⟩ k)) (fun k => g (ix2 0 k)) (fun k n => x3 (ix2 k n)) (fun n => x4 (ix2 0 n))
      (posB x2 i (ix2 0 ⟨j.val / 40, by omega⟩)) (j.val % 40) l := by
  have hj := j.isLt
  show k0_pay1 _ _ (ix3 (⟨j.val / 2 / 20, by omega⟩ : Fin 256) (⟨j.val % 2, by omega⟩ : Fin 2) l) = _
  rw [pay1_at, head_at x g x2 x3 x4 i _ (by omega) _ (by omega), head_at x g x2 x3 x4 i _ (by omega) _ (by omega)]
  have e : (⟨j.val / 2 / 20, by omega⟩ : Fin 256) = ⟨j.val / 40, by omega⟩ := Fin.ext (by show j.val / 2 / 20 = j.val / 40; omega)
  rw [e]
  split
  · rename_i h
    have h : j.val % 2 = 0 := h
    congr 1
    show 8 * (j.val / 2 % 20 / 4) + (2 * (j.val / 2 % 20 % 4)) = j.val % 40
    omega
  · rename_i h
    have h : ¬ j.val % 2 = 0 := h
    congr 1
    show 8 * (j.val / 2 % 20 / 4) + (2 * (j.val / 2 % 20 % 4) + 1) = j.val % 40
    omega

/-- A lane of `k`. -/
theorem kB_at (j : Fin 2048) (l : Fin 128) : kB x g x2 x3 x4 i (ix2 j l) =
    headS (fun k => x (ix2 ⟨j.val / 8, by omega⟩ k)) (fun k => g (ix2 0 k)) (fun k n => x3 (ix2 k n)) (fun n => x4 (ix2 0 n))
      (posB x2 i (ix2 0 ⟨j.val / 8, by omega⟩)) (40 + j.val % 8) l := by
  have hj := j.isLt
  show k0_pay1 _ _ (ix3 (⟨j.val / 2 / 4, by omega⟩ : Fin 256) (⟨j.val % 2, by omega⟩ : Fin 2) l) = _
  rw [pay1_at, head_at x g x2 x3 x4 i _ (by omega) _ (by omega), head_at x g x2 x3 x4 i _ (by omega) _ (by omega)]
  have e : (⟨j.val / 2 / 4, by omega⟩ : Fin 256) = ⟨j.val / 8, by omega⟩ := Fin.ext (by show j.val / 2 / 4 = j.val / 8; omega)
  rw [e]
  split
  · rename_i h
    have h : j.val % 2 = 0 := h
    congr 1
    show 8 * 5 + (2 * (j.val / 2 % 4)) = 40 + j.val % 8
    omega
  · rename_i h
    have h : ¬ j.val % 2 = 0 := h
    congr 1
    show 8 * 5 + (2 * (j.val / 2 % 4) + 1) = 40 + j.val % 8
    omega

/-- A lane of `v`. -/
theorem vB_at (j : Fin 2048) (l : Fin 128) : vB x g x3 x4 (ix2 j l) =
    colS (fun k => x (ix2 ⟨j.val / 8, by omega⟩ k)) (fun k => g (ix2 0 k)) (fun k n => x3 (ix2 k n)) (fun n => x4 (ix2 0 n))
      (128 * (48 + j.val % 8) + l.val) := by
  have hj := j.isLt
  show k0_pay1 _ _ (ix3 (⟨j.val / 2 / 4, by omega⟩ : Fin 256) (⟨j.val % 2, by omega⟩ : Fin 2) l) = _
  rw [pay1_at, vhead_at x g x3 x4 _ (by omega) _ (by omega), vhead_at x g x3 x4 _ (by omega) _ (by omega)]
  have e : (⟨j.val / 2 / 4, by omega⟩ : Fin 256) = ⟨j.val / 8, by omega⟩ := Fin.ext (by show j.val / 2 / 4 = j.val / 8; omega)
  rw [e]
  split
  · rename_i h
    have h : j.val % 2 = 0 := h
    congr 1
    show 128 * (8 * 6 + (2 * (j.val / 2 % 4))) + l.val = 128 * (48 + j.val % 8) + l.val
    omega
  · rename_i h
    have h : ¬ j.val % 2 = 0 := h
    congr 1
    show 128 * (8 * 6 + (2 * (j.val / 2 % 4) + 1)) + l.val = 128 * (48 + j.val % 8) + l.val
    omega

end Blocks

end Cert.KernelIdeal.Val

end
-- ==== Proof.KernelIdealValue.lean ====
module

public import proofs.«01_k».proof.Proof.Heads
public import proofs.«01_k».proof.Proof.ScaleRow

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body with its results named -/

set_option maxHeartbeats 4000000 in
/-- The kernel body on whole buffers: it terminates without a fault, leaves the five inputs as they were, leaves the
    five outputs at the block functions of the inputs, and the three scratch buffers at some contents. -/
theorem body_val (c : Dev nD) (E : Set ℕ) (i : grid0.Coords) (arg1 : Memref sig .tc .vmem S256x5120 .bf16) (harg1 : arg1.IsWhole) (arg2 : Memref sig .tc .vmem S1x5120 .f32) (harg2 : arg2.IsWhole) (arg3 : Memref sig .tc .vmem S3x256 .i32) (harg3 : arg3.IsWhole) (arg4 : Memref sig .tc .vmem S5120x7168 .fp8e4m3) (harg4 : arg4.IsWhole) (arg5 : Memref sig .tc .vmem S1x7168 .f32) (harg5 : arg5.IsWhole) (arg6 : Memref sig .tc .vmem S10240x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S256x5120 .fp8e4m3) (harg9 : arg9.IsWhole) (arg10 : Memref sig .tc .vmem S1x1x256 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (x0 : Vec F S256x5120 .bf16) (x1 : Vec F S1x5120 .f32) (x2 : Vec F S3x256 .i32) (x3 : Vec F S5120x7168 .fp8e4m3) (x4 : Vec F S1x7168 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (qB x0 x1 x2 x3 x4 i) ∗ owns (c : Thread nD τ) arg7 fullShare (kB x0 x1 x2 x3 x4 i) ∗ owns (c : Thread nD τ) arg8 fullShare (vB x0 x1 x3 x4) ∗ owns (c : Thread nD τ) arg9 fullShare (codesB x1 x0) ∗ owns (c : Thread nD τ) arg10 fullShare (scaleB (xsB x1 x0)) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13) K := by
  simp only [cc0_rmsnorm_fp8_qkv_rope_eq_skeleton]; unfold cc0_rmsnorm_fp8_qkv_rope_skel
  unfold owns
  rw [harg6.set_eq_univ, harg7.set_eq_univ, harg8.set_eq_univ]
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst e1 e2 e3 e4 e5
  sl_exec
  sl_step
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro
    exact q_read c i arg1 arg2 arg3 arg4 arg5 arg6 harg6 arg9 arg11 arg12 arg13 f1 f2 f3 f4 f5 f6
  isplitl [H7]
  · iexists _; isplitr; swap; · iexact H7
    ipureintro
    exact k_read c i arg1 arg2 arg3 arg4 arg5 arg7 harg7 arg9 arg11 arg12 arg13 f1 f2 f3 f4 f5 f7
  isplitl [H8]
  · iexists _; isplitr; swap; · iexact H8
    ipureintro
    exact v_read c arg1 arg2 arg4 arg5 arg8 harg8 arg9 arg13 f1 f2 f4 f5 f8
  isplitl [H9]
  · iexists _; isplitr; swap; · iexact H9
    ipureintro
    (refine (codes_read arg9.view f9 arg1 f1 (gainL arg2 f2)).trans ?_; rw [gain_load])
  isplitl [H10]
  · iexists _; isplitr; swap; · iexact H10
    ipureintro
    exact row_read arg10.view f10 arg13.view arg1 f1 arg2 f2
  isplitl [H11]
  · iexists _; iexists _; isplitr; swap; · iexact H11
    ipureintro; rfl
  isplitl [H12]
  · iexists _; iexists _; isplitr; swap; · iexact H12
    ipureintro; rfl
  iexists _; iexists _; isplitr; swap; · iexact H13
  ipureintro; rfl

/-! ## The proof data: the outputs forgotten -/

variable (m : (ℓ : Loc nD τ sig) → Buf (Elt F) ℓ) (ρ : Dev nD → PrngReg)

/-- The proof data: the arrays as the region finds them, each input's buffer left at its block, each output's at its block function. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qB (iblk m c 0 t) (iblk m c 1 t) (iblk m c 2 t) (iblk m c 3 t) (iblk m c 4 t) (cfg0.grid.coords t)
    | ⟨6, _⟩ => kB (iblk m c 0 t) (iblk m c 1 t) (iblk m c 2 t) (iblk m c 3 t) (iblk m c 4 t) (cfg0.grid.coords t)
    | ⟨7, _⟩ => vB (iblk m c 0 t) (iblk m c 1 t) (iblk m c 3 t) (iblk m c 4 t)
    | ⟨8, _⟩ => codesB (iblk m c 1 t) (iblk m c 0 t)
    | ⟨9, _⟩ => scaleB (xsB (iblk m c 1 t) (iblk m c 0 t))
  Φ _ := Pipeline.ΦA spec0 c
  q _ := fullShare
  owed _ := 0

/-- The data's arrays are the region-entry contents. -/
theorem A_eq (c : Dev nD) (w : Fin cfg0.W) : (dats m 0 c).A w = V m c (Pipeline.arrRef spec0 w) := by
  dsimp only [dats]

/-- What the body leaves in input window 0: its block. -/
theorem after0_0 (c : Dev nD) (t : Fin cfg0.N) : (dats m 0 c).after 0 t = iblk m c 0 t := by dsimp only [dats]
/-- Input window 0's buffer holds its block when the body starts. -/
theorem before0_0 (c : Dev nD) (t : Fin cfg0.N) (d) : (dats m 0 c).before 0 t d = iblk m c 0 t :=
  before0_0_of m (dats m 0 c) (A_eq m c 0) (after0_0 m c) t d
/-- What the body leaves in input window 1: its block. -/
theorem after0_1 (c : Dev nD) (t : Fin cfg0.N) : (dats m 0 c).after 1 t = iblk m c 1 t := by dsimp only [dats]
/-- Input window 1's buffer holds its block when the body starts. -/
theorem before0_1 (c : Dev nD) (t : Fin cfg0.N) (d) : (dats m 0 c).before 1 t d = iblk m c 1 t :=
  before0_1_of m (dats m 0 c) (A_eq m c 1) (after0_1 m c) t d
/-- What the body leaves in input window 2: its block. -/
theorem after0_2 (c : Dev nD) (t : Fin cfg0.N) : (dats m 0 c).after 2 t = iblk m c 2 t := by dsimp only [dats]
/-- Input window 2's buffer holds its block when the body starts. -/
theorem before0_2 (c : Dev nD) (t : Fin cfg0.N) (d) : (dats m 0 c).before 2 t d = iblk m c 2 t :=
  before0_2_of m (dats m 0 c) (A_eq m c 2) (after0_2 m c) t d
/-- What the body leaves in input window 3: its block. -/
theorem after0_3 (c : Dev nD) (t : Fin cfg0.N) : (dats m 0 c).after 3 t = iblk m c 3 t := by dsimp only [dats]
/-- Input window 3's buffer holds its block when the body starts. -/
theorem before0_3 (c : Dev nD) (t : Fin cfg0.N) (d) : (dats m 0 c).before 3 t d = iblk m c 3 t :=
  before0_3_of m (dats m 0 c) (A_eq m c 3) (after0_3 m c) t d
/-- What the body leaves in input window 4: its block. -/
theorem after0_4 (c : Dev nD) (t : Fin cfg0.N) : (dats m 0 c).after 4 t = iblk m c 4 t := by dsimp only [dats]
/-- Input window 4's buffer holds its block when the body starts. -/
theorem before0_4 (c : Dev nD) (t : Fin cfg0.N) (d) : (dats m 0 c).before 4 t d = iblk m c 4 t :=
  before0_4_of m (dats m 0 c) (A_eq m c 4) (after0_4 m c) t d

/-- What the body leaves in `q`. -/
theorem after0_5 (c : Dev nD) (t : Fin cfg0.N) : (dats m 0 c).after 5 t =
    qB (iblk m c 0 t) (iblk m c 1 t) (iblk m c 2 t) (iblk m c 3 t) (iblk m c 4 t) (cfg0.grid.coords t) := by dsimp only [dats]
/-- What the body leaves in `k`. -/
theorem after0_6 (c : Dev nD) (t : Fin cfg0.N) : (dats m 0 c).after 6 t =
    kB (iblk m c 0 t) (iblk m c 1 t) (iblk m c 2 t) (iblk m c 3 t) (iblk m c 4 t) (cfg0.grid.coords t) := by dsimp only [dats]
/-- What the body leaves in `v`. -/
theorem after0_7 (c : Dev nD) (t : Fin cfg0.N) : (dats m 0 c).after 7 t =
    vB (iblk m c 0 t) (iblk m c 1 t) (iblk m c 3 t) (iblk m c 4 t) := by dsimp only [dats]
/-- What the body leaves in the codes. -/
theorem after0_8 (c : Dev nD) (t : Fin cfg0.N) : (dats m 0 c).after 8 t = codesB (iblk m c 1 t) (iblk m c 0 t) := by dsimp only [dats]
/-- What the body leaves in the scales. -/
theorem after0_9 (c : Dev nD) (t : Fin cfg0.N) : (dats m 0 c).after 9 t = scaleB (xsB (iblk m c 1 t) (iblk m c 0 t)) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body is left with at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point, between the two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6, after0_7, after0_8, after0_9]
  unfold Pipeline.ΦA
  rw [scopedRest0_eq]
  iintro ⟨⟨⟨⟨%s0, S0⟩, ⟨%s1, S1⟩, ⟨%s2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_val c Set.univ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [S0]; · iexists s0; rw [owns_whole]; iexact S0
  isplitl [S1]; · iexists s1; rw [owns_whole]; iexact S1
  isplitl [S2]; · iexists s2; rw [owns_whole]; iexact S2
  iintro ⟨H0, H1, H2, H3, H4, H5, H6, H7, H8, H9, ⟨%u0, S0⟩, ⟨%u1, S1⟩, ⟨%u2, S2⟩⟩
  isplitl [S0 S1 S2 Hr]
  · isplitl [S0 S1 S2]
    · isplitl [S0]; · iexists u0; rw [← owns_whole (c : Thread nD τ) cc0_scratch0 fullShare u0]; iexact S0
      isplitl [S1]; · iexists u1; rw [← owns_whole (c : Thread nD τ) cc0_scratch1 fullShare u1]; iexact S1
      iexists u2; rw [← owns_whole (c : Thread nD τ) cc0_scratch2 fullShare u2]; iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run with every array and every host result named. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run to the frame post. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Val

end
-- ==== Proof.KernelArrays.lean ====
module

public import proofs.«01_k».proof.Proof.KernelHeads
public import proofs.«01_k».proof.Proof.KernelIdealValue

@[expose] public section

set_option maxRecDepth 16384

noncomputable section

namespace Cert.KernelIdeal.Val

open Cert.KernelIdeal Cert.KernelIdeal.Gen Cert.KernelIdeal.Hand Cert.Spec
open Idealize.ShloMosaic Idealize.ShloMosaic.TcCoe

/-! ## The result arrays -/

variable (m : (ℓ : Loc nD τ sig) → Buf (Elt Ideal) ℓ)

/-- The block each window shows at a step. -/
theorem idx : ∀ t : Fin cfg0.N, win0_0.index t = ![t.val, 0] ∧ win0_1.index t = ![0, 0] ∧ win0_2.index t = ![0, t.val % 2] ∧
    win0_3.index t = ![0, 0] ∧ win0_4.index t = ![0, 0] ∧ win0_5.index t = ![t.val, 0] ∧ win0_6.index t = ![t.val, 0] ∧
    win0_7.index t = ![t.val, 0] ∧ win0_8.index t = ![t.val, 0] ∧ win0_9.index t = ![t.val / 2, 0, t.val % 2] :=
  (by decide +kernel : ∀ t : Fin grid0.N, _)

/-- The sequence whose positions a step reads. -/
theorem off_at : ∀ t : Fin cfg0.N, k0_off1 (cfg0.grid.coords t) 0 = t.val / 2 :=
  (by decide +kernel : ∀ t : Fin grid0.N, k0_off1 (grid0.coords t) 0 = t.val / 2)

/-- The activations of token `T`. -/
def xr (c : Dev nD) (T : ℕ) : Fin 5120 → EReal :=
  fun k => (m ((c : Thread nD τ).loc main_arg0) : Vec Ideal S3x512x5120 .bf16) (ix3 ⟨T / 512 % 3, Nat.mod_lt _ (by decide)⟩ ⟨T % 512, Nat.mod_lt _ (by decide)⟩ k)

/-- The position of token `T`. -/
def pr (c : Dev nD) (T : ℕ) : BitVec 32 :=
  (m ((c : Thread nD τ).loc main_arg2) : Vec Ideal S3x512 .i32) (ix2 ⟨T / 512 % 3, Nat.mod_lt _ (by decide)⟩ ⟨T % 512, Nat.mod_lt _ (by decide)⟩)

/-- The gain. -/
def gr (c : Dev nD) : Fin 5120 → EReal := fun k => (m ((c : Thread nD τ).loc main_arg1) : Vec Ideal S5120 .f32) (ix1 k)

/-- The weights. -/
def wr (c : Dev nD) : Fin 5120 → Fin 7168 → EReal := fun k n => (m ((c : Thread nD τ).loc main_arg3) : Vec Ideal S5120x7168 .fp8e4m3) (ix2 k n)

/-- The column scales. -/
def sr (c : Dev nD) : Fin 7168 → EReal := fun n => (m ((c : Thread nD τ).loc main_arg4) : Vec Ideal S7168 .f32) (ix1 n)

/-- The steps are six. -/
theorem lt6 (t : Fin cfg0.N) : t.val < 6 := t.isLt

/-- The activations as the region finds them. -/
theorem V_v0 (c : Dev nD) : (V m c main_v0 : Vec Ideal S1536x5120 .bf16) =
    shapeCast S1536x5120 (m ((c : Thread nD τ).loc main_arg0) : Vec Ideal S3x512x5120 .bf16) shapeCasts_S3x512x5120_S1536x5120 := by
  show StableHlo.after [hostOps0].flatten (fun b => m (c, b)) (Proc.devRef .tc main_v0) = _
  simp only [List.flatten_cons, List.flatten_nil, List.append_nil, hostOps0, StableHlo.after_cons, StableHlo.after_nil]
  after_results_simp
  try after_results_loop
  rfl

/-- The gain as the region finds it. -/
theorem V_v1 (c : Dev nD) : (V m c main_v1 : Vec Ideal S1x5120 .f32) =
    shapeCast S1x5120 (m ((c : Thread nD τ).loc main_arg1) : Vec Ideal S5120 .f32) shapeCasts_S5120_S1x5120 := by
  show StableHlo.after [hostOps0].flatten (fun b => m (c, b)) (Proc.devRef .tc main_v1) = _
  simp only [List.flatten_cons, List.flatten_nil, List.append_nil, hostOps0, StableHlo.after_cons, StableHlo.after_nil]
  after_results_simp
  try after_results_loop
  rfl

/-- The column scales as the region finds them. -/
theorem V_v2 (c : Dev nD) : (V m c main_v2 : Vec Ideal S1x7168 .f32) =
    shapeCast S1x7168 (m ((c : Thread nD τ).loc main_arg4) : Vec Ideal S7168 .f32) shapeCasts_S7168_S1x7168 := by
  show StableHlo.after [hostOps0].flatten (fun b => m (c, b)) (Proc.devRef .tc main_v2) = _
  simp only [List.flatten_cons, List.flatten_nil, List.append_nil, hostOps0, StableHlo.after_cons, StableHlo.after_nil]
  after_results_simp
  try after_results_loop
  rfl

/-- A row of all the tokens. -/
theorem flat_at (x : Vec Ideal S3x512x5120 .bf16) (T : Fin 1536) (k : Fin 5120) :
    shapeCast S1536x5120 x shapeCasts_S3x512x5120_S1536x5120 (ix2 T k) = x (ix3 ⟨T.val / 512 % 3, Nat.mod_lt _ (by decide)⟩ ⟨T.val % 512, Nat.mod_lt _ (by decide)⟩ k) := by
  pointwise
  congr 2
  exact Fin.ext (by show T.val / 512 = T.val / 512 % 3; omega)

/-- The gain as a row. -/
theorem row5120_at (x : Vec Ideal S5120 .f32) (k : Fin 5120) : shapeCast S1x5120 x shapeCasts_S5120_S1x5120 (ix2 0 k) = x (ix1 k) := by
  pointwise

/-- The column scales as a row. -/
theorem row7168_at (x : Vec Ideal S7168 .f32) (k : Fin 7168) : shapeCast S1x7168 x shapeCasts_S7168_S1x7168 (ix2 0 k) = x (ix1 k) := by
  pointwise

/-- A step's activations. -/
theorem iblk0_at (c : Dev nD) (t : Fin cfg0.N) (r : Fin 256) :
    (fun k => (iblk m c 0 t : Vec Ideal S256x5120 .bf16) (ix2 r k)) = xr m c (256 * t.val + r.val) := by
  have ht := lt6 t
  funext k
  show (V m c main_v0 : Vec Ideal S1536x5120 .bf16) ((win0_0.blk t).view.emb (ix2 r k)) = _
  rw [V_v0]
  have e : ((win0_0.blk t).view.emb (ix2 r k) : S1536x5120.Idx) = ix2 ⟨256 * t.val + r.val, by omega⟩ k := by
    funext a
    match a with
    | ⟨0, _⟩ => apply Fin.ext; show win0_0.index t 0 * 256 + 1 * r.val = _; rw [(idx t).1]; show t.val * 256 + 1 * r.val = 256 * t.val + r.val; omega
    | ⟨1, _⟩ => apply Fin.ext; show win0_0.index t 1 * 5120 + 1 * k.val = _; rw [(idx t).1]; show 0 * 5120 + 1 * k.val = k.val; omega
  rw [e]
  exact flat_at _ _ _

/-- A step's gain. -/
theorem iblk1_at (c : Dev nD) (t : Fin cfg0.N) : (fun k => (iblk m c 1 t : Vec Ideal S1x5120 .f32) (ix2 0 k)) = gr m c := by
  funext k
  show (V m c main_v1 : Vec Ideal S1x5120 .f32) ((win0_1.blk t).view.emb (ix2 0 k)) = _
  rw [V_v1]
  have e : ((win0_1.blk t).view.emb (ix2 0 k) : S1x5120.Idx) = ix2 0 k := by
    funext a
    match a with
    | ⟨0, _⟩ => exact Subsingleton.elim (α := Fin 1) _ _
    | ⟨1, _⟩ => apply Fin.ext; show win0_1.index t 1 * 5120 + 1 * k.val = _; rw [(idx t).2.1]; show 0 * 5120 + 1 * k.val = k.val; omega
  rw [e]
  exact row5120_at _ _

/-- A step's positions. -/
theorem iblk2_at (c : Dev nD) (t : Fin cfg0.N) (r : Fin 256) :
    posB (iblk m c 2 t : Vec Ideal S3x256 .i32) (cfg0.grid.coords t) (ix2 0 r) = pr m c (256 * t.val + r.val) := by
  have ht := lt6 t
  have e : posB (iblk m c 2 t : Vec Ideal S3x256 .i32) (cfg0.grid.coords t) (ix2 0 r) = (iblk m c 2 t : Vec Ideal S3x256 .i32) (ix2 ⟨t.val / 2, by omega⟩ r) := by
    show (iblk m c 2 t : Vec Ideal S3x256 .i32) (ix2 _ r) = _
    congr 2
    exact Fin.ext (off_at t)
  rw [e]
  unfold pr
  blk_ext! [iblk, V, idx t]

/-- A step's weights. -/
theorem iblk3_at (c : Dev nD) (t : Fin cfg0.N) : (fun k n => (iblk m c 3 t : Vec Ideal S5120x7168 .fp8e4m3) (ix2 k n)) = wr m c := by
  have ht := lt6 t
  funext k n
  unfold wr
  blk_ext! [iblk, V, idx t]

/-- A step's column scales. -/
theorem iblk4_at (c : Dev nD) (t : Fin cfg0.N) : (fun n => (iblk m c 4 t : Vec Ideal S1x7168 .f32) (ix2 0 n)) = sr m c := by
  funext n
  show (V m c main_v2 : Vec Ideal S1x7168 .f32) ((win0_4.blk t).view.emb (ix2 0 n)) = _
  rw [V_v2]
  have e : ((win0_4.blk t).view.emb (ix2 0 n) : S1x7168.Idx) = ix2 0 n := by
    funext a
    match a with
    | ⟨0, _⟩ => exact Subsingleton.elim (α := Fin 1) _ _
    | ⟨1, _⟩ => apply Fin.ext; show win0_4.index t 1 * 7168 + 1 * n.val = _; rw [(idx t).2.2.2.2.1]; show 0 * 7168 + 1 * n.val = n.val; omega
  rw [e]
  exact row7168_at _ _

/-- The whole `q`, a row for each head of each token. -/
def gQ (c : Dev nD) : Vec Ideal S61440x128 .bf16 :=
  fun i => headS (xr m c ((i 0).val / 40)) (gr m c) (wr m c) (sr m c) (pr m c ((i 0).val / 40)) ((i 0).val % 40) (i 1)

/-- The whole `k`. -/
def gK (c : Dev nD) : Vec Ideal S12288x128 .bf16 :=
  fun i => headS (xr m c ((i 0).val / 8)) (gr m c) (wr m c) (sr m c) (pr m c ((i 0).val / 8)) (40 + (i 0).val % 8) (i 1)

/-- The whole `v`. -/
def gV (c : Dev nD) : Vec Ideal S12288x128 .bf16 :=
  fun i => colS (xr m c ((i 0).val / 8)) (gr m c) (wr m c) (sr m c) (128 * (48 + (i 0).val % 8) + (i 1).val)

/-- All the codes. -/
def gC (c : Dev nD) : Vec Ideal S1536x5120 .fp8e4m3 := fun i => cdS (xr m c (i 0).val) (gr m c) (i 1)

/-- All the scales. -/
def gS (c : Dev nD) : Vec Ideal S3x1x512 .f32 := fun i => scS (xr m c (512 * (i 0).val + (i 2).val)) (gr m c)

/-- Where a view puts something lies in the view. -/
theorem mem_of_emb {κ : Kind} {sp : Space} {S : Shape} {e : EltTy} (v : View sig κ sp S e) {y : S.Idx} {i : v.ty.Idx} (h : v.emb y = i) : i ∈ v.set :=
  h ▸ v.emb_mem_set y

/-- Where the block of `q` goes. -/
theorem emb5 (t : Fin cfg0.N) (j : Fin 10240) (l : Fin 128) :
    (((cfg0.win 5).blk t).view.emb (ix2 j l) : S61440x128.Idx) = ix2 ⟨10240 * t.val + j.val, by have := lt6 t; omega⟩ l := by
  funext a
  match a with
  | ⟨0, _⟩ => apply Fin.ext; show win0_5.index t 0 * 10240 + 1 * j.val = _; rw [(idx t).2.2.2.2.2.1]; show t.val * 10240 + 1 * j.val = 10240 * t.val + j.val; omega
  | ⟨1, _⟩ => apply Fin.ext; show win0_5.index t 1 * 128 + 1 * l.val = _; rw [(idx t).2.2.2.2.2.1]; show 0 * 128 + 1 * l.val = l.val; omega

/-- `q` after the last step. -/
theorem final_q (c : Dev nD) : ((dats m 0 c).arrAt 5 cfg0.N : Vec Ideal S61440x128 .bf16) = gQ m c := by
  refine (dats m 0 c).arrAt_eq_of_cover 5 (gQ m c) (fun t _ => ?_) (fun i => ?_)
  · have ht := lt6 t
    show (cfg0.win 5).cut (grid0.coords t) ((dats m 0 c).after 5 t) = _
    rw [after0_5]
    funext y
    obtain ⟨j, l, rfl⟩ : ∃ (j : Fin 10240) (l : Fin 128), y = ix2 j l := ⟨y 0, y 1, by funext a; match a with | ⟨0, _⟩ => rfl | ⟨1, _⟩ => rfl⟩
    show qB _ _ _ _ _ _ (ix2 j l) = gQ m c (((cfg0.win 5).blk t).view.emb (ix2 j l))
    rw [emb5, qB_at, iblk0_at, iblk1_at, iblk2_at, iblk3_at, iblk4_at]
    show _ = headS (xr m c ((10240 * t.val + j.val) / 40)) (gr m c) (wr m c) (sr m c) (pr m c ((10240 * t.val + j.val) / 40)) ((10240 * t.val + j.val) % 40) l
    rw [show (10240 * t.val + j.val) / 40 = 256 * t.val + j.val / 40 by omega, show (10240 * t.val + j.val) % 40 = j.val % 40 by omega]
  · have h0 : (i 0).val < 61440 := (i 0).isLt
    have e := emb5 ⟨(i 0).val / 10240, show (i 0).val / 10240 < 6 by omega⟩ ⟨(i 0).val % 10240, Nat.mod_lt _ (by decide)⟩ (i 1)
    refine ⟨⟨(i 0).val / 10240, show (i 0).val / 10240 < 6 by omega⟩, flush0_5 _, ?_⟩
    have ei : (ix2 ⟨10240 * ((i 0).val / 10240) + (i 0).val % 10240, by omega⟩ (i 1) : S61440x128.Idx) = i := by
      funext a
      match a with
      | ⟨0, _⟩ => apply Fin.ext; show 10240 * ((i 0).val / 10240) + (i 0).val % 10240 = (i 0).val; omega
      | ⟨1, _⟩ => rfl
    exact mem_of_emb ((cfg0.win 5).blk _).view (e.trans ei)

/-- Where the block of `k` goes. -/
theorem emb6 (t : Fin cfg0.N) (j : Fin 2048) (l : Fin 128) :
    (((cfg0.win 6).blk t).view.emb (ix2 j l) : S12288x128.Idx) = ix2 ⟨2048 * t.val + j.val, by have := lt6 t; omega⟩ l := by
  funext a
  match a with
  | ⟨0, _⟩ => apply Fin.ext; show win0_6.index t 0 * 2048 + 1 * j.val = _; rw [(idx t).2.2.2.2.2.2.1]; show t.val * 2048 + 1 * j.val = 2048 * t.val + j.val; omega
  | ⟨1, _⟩ => apply Fin.ext; show win0_6.index t 1 * 128 + 1 * l.val = _; rw [(idx t).2.2.2.2.2.2.1]; show 0 * 128 + 1 * l.val = l.val; omega

/-- `k` after the last step. -/
theorem final_k (c : Dev nD) : ((dats m 0 c).arrAt 6 cfg0.N : Vec Ideal S12288x128 .bf16) = gK m c := by
  refine (dats m 0 c).arrAt_eq_of_cover 6 (gK m c) (fun t _ => ?_) (fun i => ?_)
  · have ht := lt6 t
    show (cfg0.win 6).cut (grid0.coords t) ((dats m 0 c).after 6 t) = _
    rw [after0_6]
    funext y
    obtain ⟨j, l, rfl⟩ : ∃ (j : Fin 2048) (l : Fin 128), y = ix2 j l := ⟨y 0, y 1, by funext a; match a with | ⟨0, _⟩ => rfl | ⟨1, _⟩ => rfl⟩
    show kB _ _ _ _ _ _ (ix2 j l) = gK m c (((cfg0.win 6).blk t).view.emb (ix2 j l))
    rw [emb6, kB_at, iblk0_at, iblk1_at, iblk2_at, iblk3_at, iblk4_at]
    show _ = headS (xr m c ((2048 * t.val + j.val) / 8)) (gr m c) (wr m c) (sr m c) (pr m c ((2048 * t.val + j.val) / 8)) (40 + (2048 * t.val + j.val) % 8) l
    rw [show (2048 * t.val + j.val) / 8 = 256 * t.val + j.val / 8 by omega, show (2048 * t.val + j.val) % 8 = j.val % 8 by omega]
  · have h0 : (i 0).val < 12288 := (i 0).isLt
    have e := emb6 ⟨(i 0).val / 2048, show (i 0).val / 2048 < 6 by omega⟩ ⟨(i 0).val % 2048, Nat.mod_lt _ (by decide)⟩ (i 1)
    refine ⟨⟨(i 0).val / 2048, show (i 0).val / 2048 < 6 by omega⟩, flush0_6 _, ?_⟩
    have ei : (ix2 ⟨2048 * ((i 0).val / 2048) + (i 0).val % 2048, by omega⟩ (i 1) : S12288x128.Idx) = i := by
      funext a
      match a with
      | ⟨0, _⟩ => apply Fin.ext; show 2048 * ((i 0).val / 2048) + (i 0).val % 2048 = (i 0).val; omega
      | ⟨1, _⟩ => rfl
    exact mem_of_emb ((cfg0.win 6).blk _).view (e.trans ei)

/-- Where the block of `v` goes. -/
theorem emb7 (t : Fin cfg0.N) (j : Fin 2048) (l : Fin 128) :
    (((cfg0.win 7).blk t).view.emb (ix2 j l) : S12288x128.Idx) = ix2 ⟨2048 * t.val + j.val, by have := lt6 t; omega⟩ l := by
  funext a
  match a with
  | ⟨0, _⟩ => apply Fin.ext; show win0_7.index t 0 * 2048 + 1 * j.val = _; rw [(idx t).2.2.2.2.2.2.2.1]; show t.val * 2048 + 1 * j.val = 2048 * t.val + j.val; omega
  | ⟨1, _⟩ => apply Fin.ext; show win0_7.index t 1 * 128 + 1 * l.val = _; rw [(idx t).2.2.2.2.2.2.2.1]; show 0 * 128 + 1 * l.val = l.val; omega

/-- `v` after the last step. -/
theorem final_v (c : Dev nD) : ((dats m 0 c).arrAt 7 cfg0.N : Vec Ideal S12288x128 .bf16) = gV m c := by
  refine (dats m 0 c).arrAt_eq_of_cover 7 (gV m c) (fun t _ => ?_) (fun i => ?_)
  · have ht := lt6 t
    show (cfg0.win 7).cut (grid0.coords t) ((dats m 0 c).after 7 t) = _
    rw [after0_7]
    funext y
    obtain ⟨j, l, rfl⟩ : ∃ (j : Fin 2048) (l : Fin 128), y = ix2 j l := ⟨y 0, y 1, by funext a; match a with | ⟨0, _⟩ => rfl | ⟨1, _⟩ => rfl⟩
    show vB _ _ _ _ (ix2 j l) = gV m c (((cfg0.win 7).blk t).view.emb (ix2 j l))
    rw [emb7, vB_at, iblk0_at, iblk1_at, iblk3_at, iblk4_at]
    show _ = colS (xr m c ((2048 * t.val + j.val) / 8)) (gr m c) (wr m c) (sr m c) (128 * (48 + (2048 * t.val + j.val) % 8) + l.val)
    rw [show (2048 * t.val + j.val) / 8 = 256 * t.val + j.val / 8 by omega, show (2048 * t.val + j.val) % 8 = j.val % 8 by omega]
  · have h0 : (i 0).val < 12288 := (i 0).isLt
    have e := emb7 ⟨(i 0).val / 2048, show (i 0).val / 2048 < 6 by omega⟩ ⟨(i 0).val % 2048, Nat.mod_lt _ (by decide)⟩ (i 1)
    refine ⟨⟨(i 0).val / 2048, show (i 0).val / 2048 < 6 by omega⟩, flush0_7 _, ?_⟩
    have ei : (ix2 ⟨2048 * ((i 0).val / 2048) + (i 0).val % 2048, by omega⟩ (i 1) : S12288x128.Idx) = i := by
      funext a
      match a with
      | ⟨0, _⟩ => apply Fin.ext; show 2048 * ((i 0).val / 2048) + (i 0).val % 2048 = (i 0).val; omega
      | ⟨1, _⟩ => rfl
    exact mem_of_emb ((cfg0.win 7).blk _).view (e.trans ei)

/-- Where the block of the codes goes. -/
theorem emb8 (t : Fin cfg0.N) (j : Fin 256) (l : Fin 5120) :
    (((cfg0.win 8).blk t).view.emb (ix2 j l) : S1536x5120.Idx) = ix2 ⟨256 * t.val + j.val, by have := lt6 t; omega⟩ l := by
  funext a
  match a with
  | ⟨0, _⟩ => apply Fin.ext; show win0_8.index t 0 * 256 + 1 * j.val = _; rw [(idx t).2.2.2.2.2.2.2.2.1]; show t.val * 256 + 1 * j.val = 256 * t.val + j.val; omega
  | ⟨1, _⟩ => apply Fin.ext; show win0_8.index t 1 * 5120 + 1 * l.val = _; rw [(idx t).2.2.2.2.2.2.2.2.1]; show 0 * 5120 + 1 * l.val = l.val; omega

/-- the codes after the last step. -/
theorem final_codes (c : Dev nD) : ((dats m 0 c).arrAt 8 cfg0.N : Vec Ideal S1536x5120 .fp8e4m3) = gC m c := by
  refine (dats m 0 c).arrAt_eq_of_cover 8 (gC m c) (fun t _ => ?_) (fun i => ?_)
  · have ht := lt6 t
    show (cfg0.win 8).cut (grid0.coords t) ((dats m 0 c).after 8 t) = _
    rw [after0_8]
    funext y
    obtain ⟨j, l, rfl⟩ : ∃ (j : Fin 256) (l : Fin 5120), y = ix2 j l := ⟨y 0, y 1, by funext a; match a with | ⟨0, _⟩ => rfl | ⟨1, _⟩ => rfl⟩
    show codesB _ _ (ix2 j l) = gC m c (((cfg0.win 8).blk t).view.emb (ix2 j l))
    rw [emb8, codesB_at, iblk0_at, iblk1_at]
    rfl
  · have h0 : (i 0).val < 1536 := (i 0).isLt
    have e := emb8 ⟨(i 0).val / 256, show (i 0).val / 256 < 6 by omega⟩ ⟨(i 0).val % 256, Nat.mod_lt _ (by decide)⟩ (i 1)
    refine ⟨⟨(i 0).val / 256, show (i 0).val / 256 < 6 by omega⟩, flush0_8 _, ?_⟩
    have ei : (ix2 ⟨256 * ((i 0).val / 256) + (i 0).val % 256, by omega⟩ (i 1) : S1536x5120.Idx) = i := by
      funext a
      match a with
      | ⟨0, _⟩ => apply Fin.ext; show 256 * ((i 0).val / 256) + (i 0).val % 256 = (i 0).val; omega
      | ⟨1, _⟩ => rfl
    exact mem_of_emb ((cfg0.win 8).blk _).view (e.trans ei)

/-- Where the block of the scales goes. -/
theorem emb9 (t : Fin cfg0.N) (a b : Fin 1) (r : Fin 256) :
    (((cfg0.win 9).blk t).view.emb (ix3 a b r) : S3x1x512.Idx) = ix3 ⟨t.val / 2, by have := lt6 t; omega⟩ 0 ⟨256 * (t.val % 2) + r.val, by omega⟩ := by
  funext d
  match d with
  | ⟨0, _⟩ => apply Fin.ext; show win0_9.index t 0 * 1 + 1 * a.val = _; rw [(idx t).2.2.2.2.2.2.2.2.2]; show t.val / 2 * 1 + 1 * a.val = t.val / 2; omega
  | ⟨1, _⟩ => exact Subsingleton.elim (α := Fin 1) _ _
  | ⟨2, _⟩ => apply Fin.ext; show win0_9.index t 2 * 256 + 1 * r.val = _; rw [(idx t).2.2.2.2.2.2.2.2.2]; show t.val % 2 * 256 + 1 * r.val = 256 * (t.val % 2) + r.val; omega

/-- The scales after the last step. -/
theorem final_scale (c : Dev nD) : ((dats m 0 c).arrAt 9 cfg0.N : Vec Ideal S3x1x512 .f32) = gS m c := by
  refine (dats m 0 c).arrAt_eq_of_cover 9 (gS m c) (fun t _ => ?_) (fun i => ?_)
  · have ht := lt6 t
    show (cfg0.win 9).cut (grid0.coords t) ((dats m 0 c).after 9 t) = _
    rw [after0_9]
    funext y
    obtain ⟨a, b, r, rfl⟩ : ∃ (a b : Fin 1) (r : Fin 256), y = ix3 a b r := ⟨y 0, y 1, y 2, by funext a; match a with | ⟨0, _⟩ => rfl | ⟨1, _⟩ => rfl | ⟨2, _⟩ => rfl⟩
    show scaleB _ (ix3 a b r) = gS m c (((cfg0.win 9).blk t).view.emb (ix3 a b r))
    rw [emb9, scaleB_at, iblk0_at, iblk1_at]
    show _ = scS (xr m c (512 * (t.val / 2) + (256 * (t.val % 2) + r.val))) (gr m c)
    rw [show 512 * (t.val / 2) + (256 * (t.val % 2) + r.val) = 256 * t.val + r.val by omega]
  · have h0 : (i 0).val < 3 := (i 0).isLt
    have h2 : (i 2).val < 512 := (i 2).isLt
    have e := emb9 ⟨2 * (i 0).val + (i 2).val / 256, show 2 * (i 0).val + (i 2).val / 256 < 6 by omega⟩ 0 0 ⟨(i 2).val % 256, Nat.mod_lt _ (by decide)⟩
    refine ⟨⟨2 * (i 0).val + (i 2).val / 256, show 2 * (i 0).val + (i 2).val / 256 < 6 by omega⟩, flush0_9 _, ?_⟩
    have ei : (ix3 ⟨(2 * (i 0).val + (i 2).val / 256) / 2, by omega⟩ 0 ⟨256 * ((2 * (i 0).val + (i 2).val / 256) % 2) + (i 2).val % 256, by omega⟩ : S3x1x512.Idx) = i := by
      funext a
      match a with
      | ⟨0, _⟩ => apply Fin.ext; show (2 * (i 0).val + (i 2).val / 256) / 2 = (i 0).val; omega
      | ⟨1, _⟩ => exact Subsingleton.elim (α := Fin 1) _ _
      | ⟨2, _⟩ => apply Fin.ext; show 256 * ((2 * (i 0).val + (i 2).val / 256) % 2) + (i 2).val % 256 = (i 2).val; omega
    exact mem_of_emb ((cfg0.win 9).blk _).view (e.trans ei)

end Cert.KernelIdeal.Val

end
-- ==== Proof.KernelResult.lean ====
module

public import proofs.«01_k».proof.Proof.KernelArrays

@[expose] public section

set_option maxRecDepth 16384

noncomputable section

namespace Cert.KernelIdeal.Val

open Cert.KernelIdeal Cert.KernelIdeal.Gen Cert.KernelIdeal.Hand Cert.Spec
open Idealize.ShloMosaic Idealize.ShloMosaic.TcCoe

/-! ## The kernel's results at an index -/

section Stage

variable (σ : Valuation τ sig (Elt Ideal))

theorem t_v4 : (StableHlo.after hostOps1 σ (Proc.devRef .tc main_v4) : Vec Ideal S3x512x40x128 .bf16) =
    shapeCast S3x512x40x128 (σ (Proc.devRef .tc main_v3_0) : Vec Ideal S61440x128 .bf16) shapeCasts_S61440x128_S3x512x40x128 := by
  simp only [hostOps1, StableHlo.after_cons, StableHlo.after_nil]
  after_results_simp
  try after_results_loop
  rfl

theorem t_v5 : (StableHlo.after hostOps1 σ (Proc.devRef .tc main_v5) : Vec Ideal S3x512x8x128 .bf16) =
    shapeCast S3x512x8x128 (σ (Proc.devRef .tc main_v3_1) : Vec Ideal S12288x128 .bf16) shapeCasts_S12288x128_S3x512x8x128 := by
  simp only [hostOps1, StableHlo.after_cons, StableHlo.after_nil]
  after_results_simp
  try after_results_loop
  rfl

theorem t_v6 : (StableHlo.after hostOps1 σ (Proc.devRef .tc main_v6) : Vec Ideal S3x512x8x128 .bf16) =
    shapeCast S3x512x8x128 (σ (Proc.devRef .tc main_v3_2) : Vec Ideal S12288x128 .bf16) shapeCasts_S12288x128_S3x512x8x128 := by
  simp only [hostOps1, StableHlo.after_cons, StableHlo.after_nil]
  after_results_simp
  try after_results_loop
  rfl

theorem t_v7 : (StableHlo.after hostOps1 σ (Proc.devRef .tc main_v7) : Vec Ideal S3x512x5120 .fp8e4m3) =
    shapeCast S3x512x5120 (σ (Proc.devRef .tc main_v3_3) : Vec Ideal S1536x5120 .fp8e4m3) shapeCasts_S1536x5120_S3x512x5120 := by
  simp only [hostOps1, StableHlo.after_cons, StableHlo.after_nil]
  after_results_simp
  try after_results_loop
  rfl

theorem t_v8 : (StableHlo.after hostOps1 σ (Proc.devRef .tc main_v8) : Vec Ideal S3x512x1 .f32) =
    shapeCast S3x512x1 (σ (Proc.devRef .tc main_v3_4) : Vec Ideal S3x1x512 .f32) shapeCasts_S3x1x512_S3x512x1 := by
  simp only [hostOps1, StableHlo.after_cons, StableHlo.after_nil]
  after_results_simp
  try after_results_loop
  rfl

end Stage

theorem split_q (y : Vec Ideal S61440x128 .bf16) (b : Fin 3) (s : Fin 512) (h : Fin 40) (l : Fin 128) :
    shapeCast S3x512x40x128 y shapeCasts_S61440x128_S3x512x40x128 (ix4 b s h l) = y (ix2 ⟨40 * (512 * b.val + s.val) + h.val, by omega⟩ l) := by
  pointwise
  congr 2
  exact Fin.ext (by show b.val * 20480 + s.val * 40 + h.val = 40 * (512 * b.val + s.val) + h.val; omega)

theorem split_k (y : Vec Ideal S12288x128 .bf16) (b : Fin 3) (s : Fin 512) (h : Fin 8) (l : Fin 128) :
    shapeCast S3x512x8x128 y shapeCasts_S12288x128_S3x512x8x128 (ix4 b s h l) = y (ix2 ⟨8 * (512 * b.val + s.val) + h.val, by omega⟩ l) := by
  pointwise
  congr 2
  exact Fin.ext (by show b.val * 4096 + s.val * 8 + h.val = 8 * (512 * b.val + s.val) + h.val; omega)

theorem split_c (y : Vec Ideal S1536x5120 .fp8e4m3) (b : Fin 3) (s : Fin 512) (l : Fin 5120) :
    shapeCast S3x512x5120 y shapeCasts_S1536x5120_S3x512x5120 (ix3 b s l) = y (ix2 ⟨512 * b.val + s.val, by omega⟩ l) := by
  pointwise
  simp only [Nat.mul_comm b.val 512]

theorem split_s (y : Vec Ideal S3x1x512 .f32) (b : Fin 3) (s : Fin 512) :
    shapeCast S3x512x1 y shapeCasts_S3x1x512_S3x512x1 (ix3 b s 0) = y (ix3 b 0 s) := by
  pointwise

variable (m : (ℓ : Loc nD τ sig) → Buf (Elt Ideal) ℓ)

/-- The contents of the buffers when the kernel is done. -/
abbrev after1 (c : Dev nD) : Valuation τ sig (Elt Ideal) :=
  Pipeline.withArrays spec0 c (V0 m c) fun w => (dats m 0 c).arrAt w (cfgs 0).N

theorem arr_inj : Function.Injective (Pipeline.arrRef spec0) := by decide

theorem after1_q (c : Dev nD) : (after1 m c (Proc.devRef .tc main_v3_0) : Vec Ideal S61440x128 .bf16) = gQ m c :=
  (Pipeline.withArrays_arr spec0 arr_inj c (V0 m c) (fun w => (dats m 0 c).arrAt w (cfgs 0).N) 5).trans (final_q m c)
theorem after1_k (c : Dev nD) : (after1 m c (Proc.devRef .tc main_v3_1) : Vec Ideal S12288x128 .bf16) = gK m c :=
  (Pipeline.withArrays_arr spec0 arr_inj c (V0 m c) (fun w => (dats m 0 c).arrAt w (cfgs 0).N) 6).trans (final_k m c)
theorem after1_v (c : Dev nD) : (after1 m c (Proc.devRef .tc main_v3_2) : Vec Ideal S12288x128 .bf16) = gV m c :=
  (Pipeline.withArrays_arr spec0 arr_inj c (V0 m c) (fun w => (dats m 0 c).arrAt w (cfgs 0).N) 7).trans (final_v m c)
theorem after1_codes (c : Dev nD) : (after1 m c (Proc.devRef .tc main_v3_3) : Vec Ideal S1536x5120 .fp8e4m3) = gC m c :=
  (Pipeline.withArrays_arr spec0 arr_inj c (V0 m c) (fun w => (dats m 0 c).arrAt w (cfgs 0).N) 8).trans (final_codes m c)
theorem after1_scale (c : Dev nD) : (after1 m c (Proc.devRef .tc main_v3_4) : Vec Ideal S3x1x512 .f32) = gS m c :=
  (Pipeline.withArrays_arr spec0 arr_inj c (V0 m c) (fun w => (dats m 0 c).arrAt w (cfgs 0).N) 9).trans (final_scale m c)

/-- What the lines after the kernel leave. -/
theorem tail_eq (c : Dev nD) (b : Ref sig .tc) : Pipeline.afterTail₀ cfgs (dats m) 0 (V0 m) [hostOps1] c b =
    StableHlo.after hostOps1 (after1 m c) (Proc.devRef .tc b) := by
  unfold Pipeline.afterTail₀
  rw [List.flatten_cons, List.flatten_nil, List.append_nil]

/-- The activations of a token. -/
def row (c : Dev nD) (b : Fin 3) (s : Fin 512) : Fin 5120 → EReal :=
  fun k => (m ((c : Thread nD τ).loc main_arg0) : Vec Ideal S3x512x5120 .bf16) (ix3 b s k)

/-- The position of a token. -/
def pos (c : Dev nD) (b : Fin 3) (s : Fin 512) : BitVec 32 := (m ((c : Thread nD τ).loc main_arg2) : Vec Ideal S3x512 .i32) (ix2 b s)

theorem xr_eq (c : Dev nD) (b : Fin 3) (s : Fin 512) (T : ℕ) (h : T = 512 * b.val + s.val) : xr m c T = row m c b s := by
  subst h
  have e1 : (⟨(512 * b.val + s.val) / 512 % 3, Nat.mod_lt _ (by decide)⟩ : Fin 3) = b := Fin.ext (by show (512 * b.val + s.val) / 512 % 3 = b.val; omega)
  have e2 : (⟨(512 * b.val + s.val) % 512, Nat.mod_lt _ (by decide)⟩ : Fin 512) = s := Fin.ext (by show (512 * b.val + s.val) % 512 = s.val; omega)
  unfold xr row
  rw [e1, e2]

theorem pr_eq (c : Dev nD) (b : Fin 3) (s : Fin 512) (T : ℕ) (h : T = 512 * b.val + s.val) : pr m c T = pos m c b s := by
  subst h
  have e1 : (⟨(512 * b.val + s.val) / 512 % 3, Nat.mod_lt _ (by decide)⟩ : Fin 3) = b := Fin.ext (by show (512 * b.val + s.val) / 512 % 3 = b.val; omega)
  have e2 : (⟨(512 * b.val + s.val) % 512, Nat.mod_lt _ (by decide)⟩ : Fin 512) = s := Fin.ext (by show (512 * b.val + s.val) % 512 = s.val; omega)
  unfold pr pos
  rw [e1, e2]

/-- An element of `q`. -/
theorem q_at (c : Dev nD) (b : Fin 3) (s : Fin 512) (h : Fin 40) (l : Fin 128) :
    (Pipeline.afterTail₀ cfgs (dats m) 0 (V0 m) [hostOps1] c main_v4 : Vec Ideal S3x512x40x128 .bf16) (ix4 b s h l) =
      headS (row m c b s) (gr m c) (wr m c) (sr m c) (pos m c b s) h.val l := by
  rw [tail_eq, t_v4, after1_q, split_q]
  show headS (xr m c ((40 * (512 * b.val + s.val) + h.val) / 40)) _ _ _ (pr m c ((40 * (512 * b.val + s.val) + h.val) / 40)) ((40 * (512 * b.val + s.val) + h.val) % 40) l = _
  rw [xr_eq m c b s _ (by omega), pr_eq m c b s _ (by omega), show (40 * (512 * b.val + s.val) + h.val) % 40 = h.val by omega]

/-- An element of `k`. -/
theorem k_at (c : Dev nD) (b : Fin 3) (s : Fin 512) (h : Fin 8) (l : Fin 128) :
    (Pipeline.afterTail₀ cfgs (dats m) 0 (V0 m) [hostOps1] c main_v5 : Vec Ideal S3x512x8x128 .bf16) (ix4 b s h l) =
      headS (row m c b s) (gr m c) (wr m c) (sr m c) (pos m c b s) (40 + h.val) l := by
  rw [tail_eq, t_v5, after1_k, split_k]
  show headS (xr m c ((8 * (512 * b.val + s.val) + h.val) / 8)) _ _ _ (pr m c ((8 * (512 * b.val + s.val) + h.val) / 8)) (40 + (8 * (512 * b.val + s.val) + h.val) % 8) l = _
  rw [xr_eq m c b s _ (by omega), pr_eq m c b s _ (by omega), show (8 * (512 * b.val + s.val) + h.val) % 8 = h.val by omega]

/-- An element of `v`. -/
theorem v_at (c : Dev nD) (b : Fin 3) (s : Fin 512) (h : Fin 8) (l : Fin 128) :
    (Pipeline.afterTail₀ cfgs (dats m) 0 (V0 m) [hostOps1] c main_v6 : Vec Ideal S3x512x8x128 .bf16) (ix4 b s h l) =
      colS (row m c b s) (gr m c) (wr m c) (sr m c) (128 * (48 + h.val) + l.val) := by
  rw [tail_eq, t_v6, after1_v, split_k]
  show colS (xr m c ((8 * (512 * b.val + s.val) + h.val) / 8)) _ _ _ (128 * (48 + (8 * (512 * b.val + s.val) + h.val) % 8) + l.val) = _
  rw [xr_eq m c b s _ (by omega), show (8 * (512 * b.val + s.val) + h.val) % 8 = h.val by omega]

/-- A code. -/
theorem codes_at (c : Dev nD) (b : Fin 3) (s : Fin 512) (l : Fin 5120) :
    (Pipeline.afterTail₀ cfgs (dats m) 0 (V0 m) [hostOps1] c main_v7 : Vec Ideal S3x512x5120 .fp8e4m3) (ix3 b s l) =
      cdS (row m c b s) (gr m c) l := by
  rw [tail_eq, t_v7, after1_codes, split_c]
  show cdS (xr m c (512 * b.val + s.val)) _ l = _
  rw [xr_eq m c b s _ rfl]

/-- A scale. -/
theorem scale_res (c : Dev nD) (b : Fin 3) (s : Fin 512) :
    (Pipeline.afterTail₀ cfgs (dats m) 0 (V0 m) [hostOps1] c main_v8 : Vec Ideal S3x512x1 .f32) (ix3 b s 0) =
      scS (row m c b s) (gr m c) := by
  rw [tail_eq, t_v8, after1_scale, split_s]
  show scS (xr m c (512 * b.val + s.val)) _ = _
  rw [xr_eq m c b s _ rfl]

/-- The run with the five results named and the arguments unchanged. -/
theorem result (ρ : Dev nD → PrngReg) : θ_run defs (onTc (τ := τ) (main (F := Ideal))) ⟨m, fun _ => 0, ρ⟩ (fun r => ∀ c : Dev nD,
      r.2.mem ((c.tc : Thread nD τ).loc main_v4) = Pipeline.afterTail₀ cfgs (dats m) 0 (V0 m) [hostOps1] c main_v4
      ∧ r.2.mem ((c.tc : Thread nD τ).loc main_v5) = Pipeline.afterTail₀ cfgs (dats m) 0 (V0 m) [hostOps1] c main_v5
      ∧ r.2.mem ((c.tc : Thread nD τ).loc main_v6) = Pipeline.afterTail₀ cfgs (dats m) 0 (V0 m) [hostOps1] c main_v6
      ∧ r.2.mem ((c.tc : Thread nD τ).loc main_v7) = Pipeline.afterTail₀ cfgs (dats m) 0 (V0 m) [hostOps1] c main_v7
      ∧ r.2.mem ((c.tc : Thread nD τ).loc main_v8) = Pipeline.afterTail₀ cfgs (dats m) 0 (V0 m) [hostOps1] c main_v8) :=
  (θ_run defs _ _).mono (fun _ h c => ⟨(h c).2 main_v4 (Pipeline.mem_restRefs_of main_v4 (by decide) (by decide)),
    (h c).2 main_v5 (Pipeline.mem_restRefs_of main_v5 (by decide) (by decide)),
    (h c).2 main_v6 (Pipeline.mem_restRefs_of main_v6 (by decide) (by decide)),
    (h c).2 main_v7 (Pipeline.mem_restRefs_of main_v7 (by decide) (by decide)),
    (h c).2 main_v8 (Pipeline.mem_restRefs_of main_v8 (by decide) (by decide))⟩) (run_main m ρ)

end Cert.KernelIdeal.Val

end
-- ==== Proof.RefPrefix.lean ====
module

public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.ReferenceIdeal.Spec

open Cert.ReferenceIdeal Cert.ReferenceIdeal.Gen
open Idealize.ShloMosaic Idealize.ShloMosaic.TcCoe

/-! ## What the reference computes before the product -/

/-- The normalised activations. -/
def hT (x : FVec Ideal S3x512x5120 .bf16) (g : FVec Ideal S5120 .f32) : FVec Ideal S3x512x5120 .f32 :=
  mulf (mulf (extf .f32 x bitsLt_bf16_f32) (broadcastInDim S3x512x5120 ![0, 1, 2] bcast_S3x512x1_S3x512x5120_0_1_2
    (Host.rsqrt (addf (Host.divf (broadcastInDim S3x512x1 ![0, 1] bcast_S3x512_S3x512x1_0_1
      (Host.reduceAdd (mulf (extf .f32 x bitsLt_bf16_f32) (extf .f32 x bitsLt_bf16_f32)) (constant S_ .f32 0x00000000#32)
        reducesTo_S3x512x5120_S3x512_d2 h_S_)) (broadcastInDim S3x512x1 ![] bcast_S_S3x512x1 (constant S_ .f32 0x45A00000#32)))
      (broadcastInDim S3x512x1 ![] bcast_S_S3x512x1 (constant S_ .f32 0x358637BD#32))))))
    (broadcastInDim S3x512x5120 ![0, 1, 2] bcast_S1x1x5120_S3x512x5120_0_1_2 (broadcastInDim S1x1x5120 ![2] bcast_S5120_S1x1x5120_2 g))

/-- The greatest magnitude of a row over the greatest code. -/
def aT (h : FVec Ideal S3x512x5120 .f32) : FVec Ideal S3x512x1 .f32 :=
  mulf (broadcastInDim S3x512x1 ![0, 1] bcast_S3x512_S3x512x1_0_1 (Host.reduce FloatOps.maximumf (Host.absf h)
    (constant S_ .f32 0xFF800000#32) reducesTo_S3x512x5120_S3x512_d2 h_S_))
    (broadcastInDim S3x512x1 ![] bcast_S_S3x512x1 (constant S_ .f32 0x3B124925#32))

/-- The powers of two compared with. -/
def powsT : FVec Ideal S254 .f32 :=
  Host.powf (broadcastInDim S254 ![] bcast_S_S254 (constant S_ .f32 0x40000000#32))
    (subf (sitofp .f32 (iotaInDim S254 32 0)) (broadcastInDim S254 ![] bcast_S_S254 (constant S_ .f32 0x42FC0000#32)))

/-- How many of them are at most `a`. -/
def cntT (a : FVec Ideal S3x512x1 .f32) : IVec S3x512 32 :=
  Host.reduce IntOp.addi (extui 32 (cmpf .ole (broadcastInDim S3x512x254 ![0, 1, 2] bcast_S1x1x254_S3x512x254_0_1_2
      (broadcastInDim S1x1x254 ![2] bcast_S254_S1x1x254_2 powsT))
      (broadcastInDim S3x512x254 ![0, 1, 2] bcast_S3x512x1_S3x512x254_0_1_2 a)) natLt_1_32)
    (constantI S_ 32 0#32) reducesTo_S3x512x254_S3x512_d2 h_S_

/-- The exponent of `a`. -/
def eT (a : FVec Ideal S3x512x1 .f32) : IVec S3x512x1 32 :=
  select (ori (cmpf .olt a (broadcastInDim S3x512x1 ![] bcast_S_S3x512x1 (constant S_ .f32 0x00800000#32)))
      (cmpf .oeq a (broadcastInDim S3x512x1 ![] bcast_S_S3x512x1 (constant S_ .f32 0x7F800000#32))))
    (broadcastInDim S3x512x1 ![] bcast_S_S3x512x1 (constantI S_ 32 0#32))
    (subi (broadcastInDim S3x512x1 ![0, 1] bcast_S3x512_S3x512x1_0_1 (cntT a))
      (broadcastInDim S3x512x1 ![] bcast_S_S3x512x1 (constantI S_ 32 126#32)))

/-- Two to an exponent. -/
def pT (e : IVec S3x512x1 32) : FVec Ideal S3x512x1 .f32 :=
  select (cmpi .sgt e (broadcastInDim S3x512x1 ![] bcast_S_S3x512x1 (constantI S_ 32 127#32)))
    (broadcastInDim S3x512x1 ![] bcast_S_S3x512x1 (constant S_ .f32 0x7F800000#32))
    (select (cmpi .slt e (broadcastInDim S3x512x1 ![] bcast_S_S3x512x1 (constantI S_ 32 4294967170#32)))
      (broadcastInDim S3x512x1 ![] bcast_S_S3x512x1 (constant S_ .f32 0x00000000#32))
      (Host.powf (broadcastInDim S3x512x1 ![] bcast_S_S3x512x1 (constant S_ .f32 0x40000000#32)) (sitofp .f32 e)))

/-- The activations scaled and clipped. -/
def yT (h : FVec Ideal S3x512x5120 .f32) (p : FVec Ideal S3x512x1 .f32) : FVec Ideal S3x512x5120 .f32 :=
  minimumf (broadcastInDim S3x512x5120 ![] bcast_S_S3x512x5120 (constant S_ .f32 0x43E00000#32))
    (maximumf (broadcastInDim S3x512x5120 ![] bcast_S_S3x512x5120 (constant S_ .f32 0xC3E00000#32))
      (mulf h (broadcastInDim S3x512x5120 ![0, 1, 2] bcast_S3x512x1_S3x512x5120_0_1_2 p)))

/-! ## The host's stages, each over what the buffers hold before it -/

section Stages

variable (σ : Valuation τ sig (Elt Ideal))

/-- What the buffers hold after the first stage: the tests for the special cases. -/
theorem s0_v37 : (StableHlo.after hostOps0 σ (Proc.devRef .tc main_v37) : IVec S3x512x1 1) =
    ori (cmpf .olt (aT (hT (σ (Proc.devRef .tc main_arg0)) (σ (Proc.devRef .tc main_arg1)))) (broadcastInDim S3x512x1 ![] bcast_S_S3x512x1 (constant S_ .f32 0x00800000#32)))
      (cmpf .oeq (aT (hT (σ (Proc.devRef .tc main_arg0)) (σ (Proc.devRef .tc main_arg1)))) (broadcastInDim S3x512x1 ![] bcast_S_S3x512x1 (constant S_ .f32 0x7F800000#32))) := by
  simp only [hostOps0, StableHlo.after_cons, StableHlo.after_nil]
  after_results_simp
  try after_results_loop
  simp only [aT, hT]

/-- The count less 126. -/
theorem s0_v32 : (StableHlo.after hostOps0 σ (Proc.devRef .tc main_v32) : IVec S3x512x1 32) =
    subi (broadcastInDim S3x512x1 ![0, 1] bcast_S3x512_S3x512x1_0_1 (cntT (aT (hT (σ (Proc.devRef .tc main_arg0)) (σ (Proc.devRef .tc main_arg1))))))
      (broadcastInDim S3x512x1 ![] bcast_S_S3x512x1 (constantI S_ 32 126#32)) := by
  simp only [hostOps0, StableHlo.after_cons, StableHlo.after_nil]
  after_results_simp
  try after_results_loop
  simp only [cntT, powsT, aT, hT]

/-- The normalised activations. -/
theorem s0_v13 : (StableHlo.after hostOps0 σ (Proc.devRef .tc main_v13) : FVec Ideal S3x512x5120 .f32) =
    hT (σ (Proc.devRef .tc main_arg0)) (σ (Proc.devRef .tc main_arg1)) := by
  simp only [hostOps0, StableHlo.after_cons, StableHlo.after_nil]
  after_results_simp
  try after_results_loop
  simp only [hT]

/-- The zero of the special cases. -/
theorem s0_c9 : (StableHlo.after hostOps0 σ (Proc.devRef .tc main_c_9) : IVec S_ 32) = constantI S_ 32 0#32 := by
  simp only [hostOps0, StableHlo.after_cons, StableHlo.after_nil]
  after_results_simp
  try after_results_loop

/-- The exponent selected. -/
theorem s1_v38 : (StableHlo.after hostOps0_1 σ (Proc.devRef .tc main_v38) : IVec S3x512x1 32) =
    select (σ (Proc.devRef .tc main_v37) : IVec S3x512x1 1) (broadcastInDim S3x512x1 ![] bcast_S_S3x512x1 (σ (Proc.devRef .tc main_c_9) : IVec S_ 32))
      (σ (Proc.devRef .tc main_v32) : IVec S3x512x1 32) := by
  simp only [hostOps0_1, StableHlo.after_cons, StableHlo.after_nil]
  after_results_simp
  try after_results_loop
  rfl

/-- A buffer the stage leaves alone. -/
theorem k1_v13 : (StableHlo.after hostOps0_1 σ (Proc.devRef .tc main_v13) : FVec Ideal S3x512x5120 .f32) = (σ (Proc.devRef .tc main_v13) : FVec Ideal S3x512x5120 .f32) := by
  simp only [hostOps0_1, StableHlo.after_cons, StableHlo.after_nil]
  after_results_simp
  try after_results_loop

/-- Two to the exponent. -/
theorem s2_v41 : (StableHlo.after hostOps0_2 σ (Proc.devRef .tc main_v41) : FVec Ideal S3x512x1 .f32) = (Host.powf (broadcastInDim S3x512x1 ![] bcast_S_S3x512x1 (constant S_ .f32 0x40000000#32)) (sitofp .f32 (σ (Proc.devRef .tc main_v38) : IVec S3x512x1 32)) : FVec Ideal S3x512x1 .f32) := by
  simp only [hostOps0_2, StableHlo.after_cons, StableHlo.after_nil]
  after_results_simp
  try after_results_loop

/-- The exponent is above the range. -/
theorem s2_v43 : (StableHlo.after hostOps0_2 σ (Proc.devRef .tc main_v43) : IVec S3x512x1 1) = cmpi .sgt (σ (Proc.devRef .tc main_v38) : IVec S3x512x1 32) (broadcastInDim S3x512x1 ![] bcast_S_S3x512x1 (constantI S_ 32 127#32)) := by
  simp only [hostOps0_2, StableHlo.after_cons, StableHlo.after_nil]
  after_results_simp
  try after_results_loop

/-- The exponent is below the range. -/
theorem s2_v45 : (StableHlo.after hostOps0_2 σ (Proc.devRef .tc main_v45) : IVec S3x512x1 1) = cmpi .slt (σ (Proc.devRef .tc main_v38) : IVec S3x512x1 32) (broadcastInDim S3x512x1 ![] bcast_S_S3x512x1 (constantI S_ 32 4294967170#32)) := by
  simp only [hostOps0_2, StableHlo.after_cons, StableHlo.after_nil]
  after_results_simp
  try after_results_loop

/-- The value below the range. -/
theorem s2_cst_13 : (StableHlo.after hostOps0_2 σ (Proc.devRef .tc main_cst_13) : FVec Ideal S_ .f32) = (constant S_ .f32 0x00000000#32 : FVec Ideal S_ .f32) := by
  simp only [hostOps0_2, StableHlo.after_cons, StableHlo.after_nil]
  after_results_simp
  try after_results_loop

/-- A buffer the stage leaves alone. -/
theorem k2_v38 : (StableHlo.after hostOps0_2 σ (Proc.devRef .tc main_v38) : IVec S3x512x1 32) = (σ (Proc.devRef .tc main_v38) : IVec S3x512x1 32) := by
  simp only [hostOps0_2, StableHlo.after_cons, StableHlo.after_nil]
  after_results_simp
  try after_results_loop

/-- A buffer the stage leaves alone. -/
theorem k2_v13 : (StableHlo.after hostOps0_2 σ (Proc.devRef .tc main_v13) : FVec Ideal S3x512x5120 .f32) = (σ (Proc.devRef .tc main_v13) : FVec Ideal S3x512x5120 .f32) := by
  simp only [hostOps0_2, StableHlo.after_cons, StableHlo.after_nil]
  after_results_simp
  try after_results_loop

/-- A selection. -/
theorem s3_v46 : (StableHlo.after hostOps0_3 σ (Proc.devRef .tc main_v46) : FVec Ideal S3x512x1 .f32) = select (σ (Proc.devRef .tc main_v45) : IVec S3x512x1 1) (broadcastInDim S3x512x1 ![] bcast_S_S3x512x1 (σ (Proc.devRef .tc main_cst_13) : FVec Ideal S_ .f32)) (σ (Proc.devRef .tc main_v41) : FVec Ideal S3x512x1 .f32) := by
  simp only [hostOps0_3, StableHlo.after_cons, StableHlo.after_nil]
  after_results_simp
  try after_results_loop
  rfl

/-- A buffer the stage leaves alone. -/
theorem k3_v43 : (StableHlo.after hostOps0_3 σ (Proc.devRef .tc main_v43) : IVec S3x512x1 1) = (σ (Proc.devRef .tc main_v43) : IVec S3x512x1 1) := by
  simp only [hostOps0_3, StableHlo.after_cons, StableHlo.after_nil]
  after_results_simp
  try after_results_loop

/-- A buffer the stage leaves alone. -/
theorem k3_v38 : (StableHlo.after hostOps0_3 σ (Proc.devRef .tc main_v38) : IVec S3x512x1 32) = (σ (Proc.devRef .tc main_v38) : IVec S3x512x1 32) := by
  simp only [hostOps0_3, StableHlo.after_cons, StableHlo.after_nil]
  after_results_simp
  try after_results_loop

/-- A buffer the stage leaves alone. -/
theorem k3_v13 : (StableHlo.after hostOps0_3 σ (Proc.devRef .tc main_v13) : FVec Ideal S3x512x5120 .f32) = (σ (Proc.devRef .tc main_v13) : FVec Ideal S3x512x5120 .f32) := by
  simp only [hostOps0_3, StableHlo.after_cons, StableHlo.after_nil]
  after_results_simp
  try after_results_loop

/-- The value above the range. -/
theorem s4_cst_14 : (StableHlo.after hostOps0_4 σ (Proc.devRef .tc main_cst_14) : FVec Ideal S_ .f32) = (constant S_ .f32 0x7F800000#32 : FVec Ideal S_ .f32) := by
  simp only [hostOps0_4, StableHlo.after_cons, StableHlo.after_nil]
  after_results_simp
  try after_results_loop

/-- A buffer the stage leaves alone. -/
theorem k4_v46 : (StableHlo.after hostOps0_4 σ (Proc.devRef .tc main_v46) : FVec Ideal S3x512x1 .f32) = (σ (Proc.devRef .tc main_v46) : FVec Ideal S3x512x1 .f32) := by
  simp only [hostOps0_4, StableHlo.after_cons, StableHlo.after_nil]
  after_results_simp
  try after_results_loop

/-- A buffer the stage leaves alone. -/
theorem k4_v43 : (StableHlo.after hostOps0_4 σ (Proc.devRef .tc main_v43) : IVec S3x512x1 1) = (σ (Proc.devRef .tc main_v43) : IVec S3x512x1 1) := by
  simp only [hostOps0_4, StableHlo.after_cons, StableHlo.after_nil]
  after_results_simp
  try after_results_loop

/-- A buffer the stage leaves alone. -/
theorem k4_v38 : (StableHlo.after hostOps0_4 σ (Proc.devRef .tc main_v38) : IVec S3x512x1 32) = (σ (Proc.devRef .tc main_v38) : IVec S3x512x1 32) := by
  simp only [hostOps0_4, StableHlo.after_cons, StableHlo.after_nil]
  after_results_simp
  try after_results_loop

/-- A buffer the stage leaves alone. -/
theorem k4_v13 : (StableHlo.after hostOps0_4 σ (Proc.devRef .tc main_v13) : FVec Ideal S3x512x5120 .f32) = (σ (Proc.devRef .tc main_v13) : FVec Ideal S3x512x5120 .f32) := by
  simp only [hostOps0_4, StableHlo.after_cons, StableHlo.after_nil]
  after_results_simp
  try after_results_loop

/-- A selection. -/
theorem s5_v47 : (StableHlo.after hostOps0_5 σ (Proc.devRef .tc main_v47) : FVec Ideal S3x512x1 .f32) = select (σ (Proc.devRef .tc main_v43) : IVec S3x512x1 1) (broadcastInDim S3x512x1 ![] bcast_S_S3x512x1 (σ (Proc.devRef .tc main_cst_14) : FVec Ideal S_ .f32)) (σ (Proc.devRef .tc main_v46) : FVec Ideal S3x512x1 .f32) := by
  simp only [hostOps0_5, StableHlo.after_cons, StableHlo.after_nil]
  after_results_simp
  try after_results_loop
  rfl

/-- A buffer the stage leaves alone. -/
theorem k5_v38 : (StableHlo.after hostOps0_5 σ (Proc.devRef .tc main_v38) : IVec S3x512x1 32) = (σ (Proc.devRef .tc main_v38) : IVec S3x512x1 32) := by
  simp only [hostOps0_5, StableHlo.after_cons, StableHlo.after_nil]
  after_results_simp
  try after_results_loop

/-- A buffer the stage leaves alone. -/
theorem k5_v13 : (StableHlo.after hostOps0_5 σ (Proc.devRef .tc main_v13) : FVec Ideal S3x512x5120 .f32) = (σ (Proc.devRef .tc main_v13) : FVec Ideal S3x512x5120 .f32) := by
  simp only [hostOps0_5, StableHlo.after_cons, StableHlo.after_nil]
  after_results_simp
  try after_results_loop

/-- Two to the exponent. -/
theorem s6_v51 : (StableHlo.after hostOps0_6 σ (Proc.devRef .tc main_v51) : FVec Ideal S3x512x1 .f32) = (Host.powf (broadcastInDim S3x512x1 ![] bcast_S_S3x512x1 (constant S_ .f32 0x40000000#32)) (sitofp .f32 (negi (σ (Proc.devRef .tc main_v38) : IVec S3x512x1 32))) : FVec Ideal S3x512x1 .f32) := by
  simp only [hostOps0_6, StableHlo.after_cons, StableHlo.after_nil]
  after_results_simp
  try after_results_loop

/-- The exponent is above the range. -/
theorem s6_v53 : (StableHlo.after hostOps0_6 σ (Proc.devRef .tc main_v53) : IVec S3x512x1 1) = cmpi .sgt (negi (σ (Proc.devRef .tc main_v38) : IVec S3x512x1 32)) (broadcastInDim S3x512x1 ![] bcast_S_S3x512x1 (constantI S_ 32 127#32)) := by
  simp only [hostOps0_6, StableHlo.after_cons, StableHlo.after_nil]
  after_results_simp
  try after_results_loop

/-- The exponent is below the range. -/
theorem s6_v55 : (StableHlo.after hostOps0_6 σ (Proc.devRef .tc main_v55) : IVec S3x512x1 1) = cmpi .slt (negi (σ (Proc.devRef .tc main_v38) : IVec S3x512x1 32)) (broadcastInDim S3x512x1 ![] bcast_S_S3x512x1 (constantI S_ 32 4294967170#32)) := by
  simp only [hostOps0_6, StableHlo.after_cons, StableHlo.after_nil]
  after_results_simp
  try after_results_loop

/-- The value below the range. -/
theorem s6_cst_18 : (StableHlo.after hostOps0_6 σ (Proc.devRef .tc main_cst_18) : FVec Ideal S_ .f32) = (constant S_ .f32 0x00000000#32 : FVec Ideal S_ .f32) := by
  simp only [hostOps0_6, StableHlo.after_cons, StableHlo.after_nil]
  after_results_simp
  try after_results_loop

/-- A buffer the stage leaves alone. -/
theorem k6_v47 : (StableHlo.after hostOps0_6 σ (Proc.devRef .tc main_v47) : FVec Ideal S3x512x1 .f32) = (σ (Proc.devRef .tc main_v47) : FVec Ideal S3x512x1 .f32) := by
  simp only [hostOps0_6, StableHlo.after_cons, StableHlo.after_nil]
  after_results_simp
  try after_results_loop

/-- A buffer the stage leaves alone. -/
theorem k6_v13 : (StableHlo.after hostOps0_6 σ (Proc.devRef .tc main_v13) : FVec Ideal S3x512x5120 .f32) = (σ (Proc.devRef .tc main_v13) : FVec Ideal S3x512x5120 .f32) := by
  simp only [hostOps0_6, StableHlo.after_cons, StableHlo.after_nil]
  after_results_simp
  try after_results_loop

/-- A selection. -/
theorem s7_v56 : (StableHlo.after hostOps0_7 σ (Proc.devRef .tc main_v56) : FVec Ideal S3x512x1 .f32) = select (σ (Proc.devRef .tc main_v55) : IVec S3x512x1 1) (broadcastInDim S3x512x1 ![] bcast_S_S3x512x1 (σ (Proc.devRef .tc main_cst_18) : FVec Ideal S_ .f32)) (σ (Proc.devRef .tc main_v51) : FVec Ideal S3x512x1 .f32) := by
  simp only [hostOps0_7, StableHlo.after_cons, StableHlo.after_nil]
  after_results_simp
  try after_results_loop
  rfl

/-- A buffer the stage leaves alone. -/
theorem k7_v53 : (StableHlo.after hostOps0_7 σ (Proc.devRef .tc main_v53) : IVec S3x512x1 1) = (σ (Proc.devRef .tc main_v53) : IVec S3x512x1 1) := by
  simp only [hostOps0_7, StableHlo.after_cons, StableHlo.after_nil]
  after_results_simp
  try after_results_loop

/-- A buffer the stage leaves alone. -/
theorem k7_v47 : (StableHlo.after hostOps0_7 σ (Proc.devRef .tc main_v47) : FVec Ideal S3x512x1 .f32) = (σ (Proc.devRef .tc main_v47) : FVec Ideal S3x512x1 .f32) := by
  simp only [hostOps0_7, StableHlo.after_cons, StableHlo.after_nil]
  after_results_simp
  try after_results_loop

/-- A buffer the stage leaves alone. -/
theorem k7_v13 : (StableHlo.after hostOps0_7 σ (Proc.devRef .tc main_v13) : FVec Ideal S3x512x5120 .f32) = (σ (Proc.devRef .tc main_v13) : FVec Ideal S3x512x5120 .f32) := by
  simp only [hostOps0_7, StableHlo.after_cons, StableHlo.after_nil]
  after_results_simp
  try after_results_loop

/-- The value above the range. -/
theorem s8_cst_19 : (StableHlo.after hostOps0_8 σ (Proc.devRef .tc main_cst_19) : FVec Ideal S_ .f32) = (constant S_ .f32 0x7F800000#32 : FVec Ideal S_ .f32) := by
  simp only [hostOps0_8, StableHlo.after_cons, StableHlo.after_nil]
  after_results_simp
  try after_results_loop

/-- A buffer the stage leaves alone. -/
theorem k8_v56 : (StableHlo.after hostOps0_8 σ (Proc.devRef .tc main_v56) : FVec Ideal S3x512x1 .f32) = (σ (Proc.devRef .tc main_v56) : FVec Ideal S3x512x1 .f32) := by
  simp only [hostOps0_8, StableHlo.after_cons, StableHlo.after_nil]
  after_results_simp
  try after_results_loop

/-- A buffer the stage leaves alone. -/
theorem k8_v53 : (StableHlo.after hostOps0_8 σ (Proc.devRef .tc main_v53) : IVec S3x512x1 1) = (σ (Proc.devRef .tc main_v53) : IVec S3x512x1 1) := by
  simp only [hostOps0_8, StableHlo.after_cons, StableHlo.after_nil]
  after_results_simp
  try after_results_loop

/-- A buffer the stage leaves alone. -/
theorem k8_v47 : (StableHlo.after hostOps0_8 σ (Proc.devRef .tc main_v47) : FVec Ideal S3x512x1 .f32) = (σ (Proc.devRef .tc main_v47) : FVec Ideal S3x512x1 .f32) := by
  simp only [hostOps0_8, StableHlo.after_cons, StableHlo.after_nil]
  after_results_simp
  try after_results_loop

/-- A buffer the stage leaves alone. -/
theorem k8_v13 : (StableHlo.after hostOps0_8 σ (Proc.devRef .tc main_v13) : FVec Ideal S3x512x5120 .f32) = (σ (Proc.devRef .tc main_v13) : FVec Ideal S3x512x5120 .f32) := by
  simp only [hostOps0_8, StableHlo.after_cons, StableHlo.after_nil]
  after_results_simp
  try after_results_loop

/-- A selection. -/
theorem s9_v57 : (StableHlo.after hostOps0_9 σ (Proc.devRef .tc main_v57) : FVec Ideal S3x512x1 .f32) = select (σ (Proc.devRef .tc main_v53) : IVec S3x512x1 1) (broadcastInDim S3x512x1 ![] bcast_S_S3x512x1 (σ (Proc.devRef .tc main_cst_19) : FVec Ideal S_ .f32)) (σ (Proc.devRef .tc main_v56) : FVec Ideal S3x512x1 .f32) := by
  simp only [hostOps0_9, StableHlo.after_cons, StableHlo.after_nil]
  after_results_simp
  try after_results_loop
  rfl

/-- A buffer the stage leaves alone. -/
theorem k9_v47 : (StableHlo.after hostOps0_9 σ (Proc.devRef .tc main_v47) : FVec Ideal S3x512x1 .f32) = (σ (Proc.devRef .tc main_v47) : FVec Ideal S3x512x1 .f32) := by
  simp only [hostOps0_9, StableHlo.after_cons, StableHlo.after_nil]
  after_results_simp
  try after_results_loop

/-- A buffer the stage leaves alone. -/
theorem k9_v13 : (StableHlo.after hostOps0_9 σ (Proc.devRef .tc main_v13) : FVec Ideal S3x512x5120 .f32) = (σ (Proc.devRef .tc main_v13) : FVec Ideal S3x512x5120 .f32) := by
  simp only [hostOps0_9, StableHlo.after_cons, StableHlo.after_nil]
  after_results_simp
  try after_results_loop

/-- The activations scaled. -/
theorem s10_v59 : (StableHlo.after hostOps0_10 σ (Proc.devRef .tc main_v59) : FVec Ideal S3x512x5120 .f32) = (mulf (σ (Proc.devRef .tc main_v13) : FVec Ideal S3x512x5120 .f32) (broadcastInDim S3x512x5120 ![0, 1, 2] bcast_S3x512x1_S3x512x5120_0_1_2 (σ (Proc.devRef .tc main_v57) : FVec Ideal S3x512x1 .f32)) : FVec Ideal S3x512x5120 .f32) := by
  simp only [hostOps0_10, StableHlo.after_cons, StableHlo.after_nil]
  after_results_simp
  try after_results_loop

/-- The least code. -/
theorem s10_cst_20 : (StableHlo.after hostOps0_10 σ (Proc.devRef .tc main_cst_20) : FVec Ideal S_ .f32) = (constant S_ .f32 0xC3E00000#32 : FVec Ideal S_ .f32) := by
  simp only [hostOps0_10, StableHlo.after_cons, StableHlo.after_nil]
  after_results_simp
  try after_results_loop

/-- The greatest code. -/
theorem s10_cst_21 : (StableHlo.after hostOps0_10 σ (Proc.devRef .tc main_cst_21) : FVec Ideal S_ .f32) = (constant S_ .f32 0x43E00000#32 : FVec Ideal S_ .f32) := by
  simp only [hostOps0_10, StableHlo.after_cons, StableHlo.after_nil]
  after_results_simp
  try after_results_loop

/-- A buffer the stage leaves alone. -/
theorem k10_v47 : (StableHlo.after hostOps0_10 σ (Proc.devRef .tc main_v47) : FVec Ideal S3x512x1 .f32) = (σ (Proc.devRef .tc main_v47) : FVec Ideal S3x512x1 .f32) := by
  simp only [hostOps0_10, StableHlo.after_cons, StableHlo.after_nil]
  after_results_simp
  try after_results_loop

/-- The activations clipped. -/
theorem s11_v60 : (StableHlo.after hostOps0_11 σ (Proc.devRef .tc main_v60) : FVec Ideal S3x512x5120 .f32) = (minimumf (broadcastInDim S3x512x5120 ![] bcast_S_S3x512x5120 (σ (Proc.devRef .tc main_cst_21) : FVec Ideal S_ .f32)) (maximumf (broadcastInDim S3x512x5120 ![] bcast_S_S3x512x5120 (σ (Proc.devRef .tc main_cst_20) : FVec Ideal S_ .f32)) (σ (Proc.devRef .tc main_v59) : FVec Ideal S3x512x5120 .f32)) : FVec Ideal S3x512x5120 .f32) := by
  simp only [hostOps0_11, StableHlo.after_cons, StableHlo.after_nil]
  after_results_simp
  try after_results_loop
  rfl

/-- A buffer the stage leaves alone. -/
theorem k11_v47 : (StableHlo.after hostOps0_11 σ (Proc.devRef .tc main_v47) : FVec Ideal S3x512x1 .f32) = (σ (Proc.devRef .tc main_v47) : FVec Ideal S3x512x1 .f32) := by
  simp only [hostOps0_11, StableHlo.after_cons, StableHlo.after_nil]
  after_results_simp
  try after_results_loop

/-- The activations as a matrix. -/
theorem s12_v61 : (StableHlo.after hostOps0_12 σ (Proc.devRef .tc main_v61) : FVec Ideal S1536x5120 .f32) = shapeCast S1536x5120 (σ (Proc.devRef .tc main_v60) : FVec Ideal S3x512x5120 .f32) shapeCasts_S3x512x5120_S1536x5120 := by
  simp only [hostOps0_12, StableHlo.after_cons, StableHlo.after_nil]
  after_results_simp
  try after_results_loop
  rfl

/-- A buffer the stage leaves alone. -/
theorem k12_v47 : (StableHlo.after hostOps0_12 σ (Proc.devRef .tc main_v47) : FVec Ideal S3x512x1 .f32) = (σ (Proc.devRef .tc main_v47) : FVec Ideal S3x512x1 .f32) := by
  simp only [hostOps0_12, StableHlo.after_cons, StableHlo.after_nil]
  after_results_simp
  try after_results_loop

end Stages

variable (m : (ℓ : Loc nD τ sig) → Buf (Elt Ideal) ℓ)

/-- The host line before the product, stage after stage. -/
theorem V0_eq (c : Dev nD) : V0 m c = StableHlo.after hostOps0_12 (StableHlo.after hostOps0_11 (StableHlo.after hostOps0_10 (StableHlo.after hostOps0_9
    (StableHlo.after hostOps0_8 (StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0 (fun b => m (c, b)))))))))))))) := by
  show StableHlo.after _ _ = _
  rw [List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, StableHlo.after_append, List.flatten_cons, List.flatten_nil, List.append_nil]

/-- The scales when the product starts. -/
theorem V_scale (c : Dev nD) : (V m c main_v47 : FVec Ideal S3x512x1 .f32) =
    pT (eT (aT (hT (m ((c : Thread nD τ).loc main_arg0)) (m ((c : Thread nD τ).loc main_arg1))))) := by
  show V0 m c _ = _
  rw [V0_eq, k12_v47, k11_v47, k10_v47, k9_v47, k8_v47, k7_v47, k6_v47, s5_v47, s4_cst_14, k4_v46, k4_v43, s3_v46, k3_v43,
    s2_v41, s2_v43, s2_v45, s2_cst_13, s1_v38, s0_v37, s0_v32, s0_c9]
  rfl

/-- The scaled activations when the product starts. -/
theorem V_y (c : Dev nD) : (V m c main_v61 : FVec Ideal S1536x5120 .f32) =
    shapeCast S1536x5120 (yT (hT (m ((c : Thread nD τ).loc main_arg0)) (m ((c : Thread nD τ).loc main_arg1)))
      (pT (negi (eT (aT (hT (m ((c : Thread nD τ).loc main_arg0)) (m ((c : Thread nD τ).loc main_arg1)))))))) shapeCasts_S3x512x5120_S1536x5120 := by
  show V0 m c _ = _
  rw [V0_eq, s12_v61, s11_v60, s10_v59, s10_cst_20, s10_cst_21, k9_v13, k8_v13, k7_v13, k6_v13, k5_v13, k4_v13, k3_v13, k2_v13, k1_v13, s0_v13,
    s9_v57, s8_cst_19, k8_v56, k8_v53, s7_v56, k7_v53, s6_v51, s6_v53, s6_v55, s6_cst_18, k5_v38, k4_v38, k3_v38, k2_v38, s1_v38, s0_v37, s0_v32, s0_c9]
  rfl

end Cert.ReferenceIdeal.Spec

end
-- ==== Proof.RefResult.lean ====
module

public import proofs.«01_k».proof.Proof.RefPrefix

@[expose] public section

set_option maxRecDepth 16384

noncomputable section

namespace Cert.ReferenceIdeal.Spec

open Cert.ReferenceIdeal Cert.ReferenceIdeal.Gen
open Idealize.ShloMosaic Idealize.ShloMosaic.TcCoe

/-! ## What the reference computes after the product -/

/-- The product with both scales. -/
def tT (acc : FVec Ideal S1536x7168 .f32) (sc : FVec Ideal S3x512x1 .f32) (ws : FVec Ideal S7168 .f32) : FVec Ideal S3x512x7168 .f32 :=
  mulf (mulf (shapeCast S3x512x7168 acc shapeCasts_S1536x7168_S3x512x7168) (broadcastInDim S3x512x7168 ![0, 1, 2] bcast_S3x512x1_S3x512x7168_0_1_2 sc))
    (broadcastInDim S3x512x7168 ![0, 1, 2] bcast_S1x1x7168_S3x512x7168_0_1_2 (broadcastInDim S1x1x7168 ![2] bcast_S7168_S1x1x7168_2 ws))

/-- The inverse frequencies. -/
def freqT : FVec Ideal S64 .f32 :=
  Host.divf (broadcastInDim S64 ![] bcast_S_S64 (constant S_ .f32 0x3F800000#32))
    (Host.powf (broadcastInDim S64 ![] bcast_S_S64 (constant S_ .f32 0x461C4000#32))
      (Host.divf (addf (broadcastInDim S64 ![] bcast_S_S64 (constant S_ .f32 0x00000000#32))
        (mulf (broadcastInDim S64 ![] bcast_S_S64 (constant S_ .f32 0x40000000#32)) (sitofp .f32 (iotaInDim S64 32 0))))
        (broadcastInDim S64 ![] bcast_S_S64 (constant S_ .f32 0x43000000#32))))

/-- Half of the angles. -/
def angT (pos : IVec S3x512 32) : FVec Ideal S3x512x64 .f32 :=
  mulf (broadcastInDim S3x512x64 ![0, 1, 2] bcast_S3x512x1_S3x512x64_0_1_2 (broadcastInDim S3x512x1 ![0, 1] bcast_S3x512_S3x512x1_0_1 (sitofp (F := Ideal) .f32 pos)))
    (broadcastInDim S3x512x64 ![0, 1, 2] bcast_S1x1x64_S3x512x64_0_1_2 (broadcastInDim S1x1x64 ![2] bcast_S64_S1x1x64_2 freqT))

/-- The angles. -/
def angsT (pos : IVec S3x512 32) : FVec Ideal S3x512x1x128 .f32 :=
  broadcastInDim S3x512x1x128 ![0, 1, 3] bcast_S3x512x128_S3x512x1x128_0_1_3
    (concatenate S3x512x128 2 [⟨S3x512x64, angT pos⟩, ⟨S3x512x64, angT pos⟩] concatenates_S3x512x64_S3x512x64_S3x512x128_d2)

/-- The heads of `q` before the rope. -/
def q0T (t : FVec Ideal S3x512x7168 .f32) : FVec Ideal S3x512x40x128 .f32 :=
  shapeCast S3x512x40x128 (extractStridedSlice S3x512x5120 ![0, 0, 0] t slices_S3x512x7168_S3x512x5120_0_0_0) shapeCasts_S3x512x5120_S3x512x40x128
/-- The heads of `k` before the rope. -/
def k0T (t : FVec Ideal S3x512x7168 .f32) : FVec Ideal S3x512x8x128 .f32 :=
  shapeCast S3x512x8x128 (extractStridedSlice S3x512x1024 ![0, 0, 5120] t slices_S3x512x7168_S3x512x1024_0_0_5120) shapeCasts_S3x512x1024_S3x512x8x128
/-- The heads of `v`. -/
def v0T (t : FVec Ideal S3x512x7168 .f32) : FVec Ideal S3x512x8x128 .f32 :=
  shapeCast S3x512x8x128 (extractStridedSlice S3x512x1024 ![0, 0, 6144] t slices_S3x512x7168_S3x512x1024_0_0_6144) shapeCasts_S3x512x1024_S3x512x8x128

/-- The rope on forty heads. -/
def ropeQ (t : FVec Ideal S3x512x40x128 .f32) (a : FVec Ideal S3x512x1x128 .f32) : FVec Ideal S3x512x40x128 .bf16 :=
  truncf .bf16 (addf (mulf t (broadcastInDim S3x512x40x128 ![0, 1, 2, 3] bcast_S3x512x1x128_S3x512x40x128_0_1_2_3 (Host.cos a)))
    (mulf (concatenate S3x512x40x128 3 [⟨S3x512x40x64, Host.negf (extractStridedSlice S3x512x40x64 ![0, 0, 0, 64] t slices_S3x512x40x128_S3x512x40x64_0_0_0_64)⟩,
        ⟨S3x512x40x64, extractStridedSlice S3x512x40x64 ![0, 0, 0, 0] t slices_S3x512x40x128_S3x512x40x64_0_0_0_0⟩] concatenates_S3x512x40x64_S3x512x40x64_S3x512x40x128_d3)
      (broadcastInDim S3x512x40x128 ![0, 1, 2, 3] bcast_S3x512x1x128_S3x512x40x128_0_1_2_3 (Host.sin a)))) bitsLt_bf16_f32

/-- The rope on eight heads. -/
def ropeK (t : FVec Ideal S3x512x8x128 .f32) (a : FVec Ideal S3x512x1x128 .f32) : FVec Ideal S3x512x8x128 .bf16 :=
  truncf .bf16 (addf (mulf t (broadcastInDim S3x512x8x128 ![0, 1, 2, 3] bcast_S3x512x1x128_S3x512x8x128_0_1_2_3 (Host.cos a)))
    (mulf (concatenate S3x512x8x128 3 [⟨S3x512x8x64, Host.negf (extractStridedSlice S3x512x8x64 ![0, 0, 0, 64] t slices_S3x512x8x128_S3x512x8x64_0_0_0_64)⟩,
        ⟨S3x512x8x64, extractStridedSlice S3x512x8x64 ![0, 0, 0, 0] t slices_S3x512x8x128_S3x512x8x64_0_0_0_0⟩] concatenates_S3x512x8x64_S3x512x8x64_S3x512x8x128_d3)
      (broadcastInDim S3x512x8x128 ![0, 1, 2, 3] bcast_S3x512x1x128_S3x512x8x128_0_1_2_3 (Host.sin a)))) bitsLt_bf16_f32

section Stage

variable (σ : Valuation τ sig (Elt Ideal))

/-- `q` from what the product left. -/
theorem e_q : (StableHlo.after hostOps1 σ (Proc.devRef .tc main_v106) : FVec Ideal S3x512x40x128 .bf16) =
    ropeQ (q0T (tT (σ (Proc.devRef .tc main_v62_1)) (σ (Proc.devRef .tc main_v47)) (σ (Proc.devRef .tc main_arg4)))) (angsT (σ (Proc.devRef .tc main_arg2))) := by
  simp only [hostOps1, StableHlo.after_cons, StableHlo.after_nil]
  after_results_simp
  try after_results_loop
  simp only [ropeQ, q0T, tT, angsT, angT, freqT]
  rfl

/-- `k` from what the product left. -/
theorem e_k : (StableHlo.after hostOps1 σ (Proc.devRef .tc main_v116) : FVec Ideal S3x512x8x128 .bf16) =
    ropeK (k0T (tT (σ (Proc.devRef .tc main_v62_1)) (σ (Proc.devRef .tc main_v47)) (σ (Proc.devRef .tc main_arg4)))) (angsT (σ (Proc.devRef .tc main_arg2))) := by
  simp only [hostOps1, StableHlo.after_cons, StableHlo.after_nil]
  after_results_simp
  try after_results_loop
  simp only [ropeK, k0T, tT, angsT, angT, freqT]
  rfl

/-- `v` from what the product left. -/
theorem e_v : (StableHlo.after hostOps1 σ (Proc.devRef .tc main_v117) : FVec Ideal S3x512x8x128 .bf16) =
    (truncf .bf16 (v0T (tT (σ (Proc.devRef .tc main_v62_1)) (σ (Proc.devRef .tc main_v47)) (σ (Proc.devRef .tc main_arg4)))) bitsLt_bf16_f32 : FVec Ideal S3x512x8x128 .bf16) := by
  simp only [hostOps1, StableHlo.after_cons, StableHlo.after_nil]
  after_results_simp
  try after_results_loop
  simp only [v0T, tT]
  rfl

/-- The codes from what the product left. -/
theorem e_codes : (StableHlo.after hostOps1 σ (Proc.devRef .tc main_v63) : FVec Ideal S3x512x5120 .fp8e4m3) =
    shapeCast S3x512x5120 (σ (Proc.devRef .tc main_v62_0) : FVec Ideal S1536x5120 .fp8e4m3) shapeCasts_S1536x5120_S3x512x5120 := by
  simp only [hostOps1, StableHlo.after_cons, StableHlo.after_nil]
  after_results_simp
  try after_results_loop
  rfl

/-- The scales are left alone. -/
theorem e_scale : (StableHlo.after hostOps1 σ (Proc.devRef .tc main_v47) : FVec Ideal S3x512x1 .f32) =
    (σ (Proc.devRef .tc main_v47) : FVec Ideal S3x512x1 .f32) := by
  simp only [hostOps1, StableHlo.after_cons, StableHlo.after_nil]
  after_results_simp
  try after_results_loop

end Stage

variable (m : (ℓ : Loc nD τ sig) → Buf (Elt Ideal) ℓ)

/-- The windows' blocks are their whole arrays. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The codes after the product. -/
theorem final_codes (c : Dev nD) : ((dats m 0 c).arrAt 2 (cfgs 0).N : FVec Ideal S1536x5120 .fp8e4m3) =
    k0_pay1 (F := Ideal) (V m c main_v61) := by
  refine (dats m 0 c).arrAt_eq_of_after_last 2 t0_0 (by decide +kernel) _ fun j => ?_
  blk_simp
  rw [after0_2]
  frame_out
  blk_point [iblk, V, idx t0_0]

/-- The product. -/
theorem final_acc (c : Dev nD) : ((dats m 0 c).arrAt 3 (cfgs 0).N : FVec Ideal S1536x7168 .f32) =
    k0_pay2 (F := Ideal) (V m c main_v61) (m ((c : Thread nD τ).loc main_arg3)) := by
  refine (dats m 0 c).arrAt_eq_of_after_last 3 t0_0 (by decide +kernel) _ fun j => ?_
  blk_simp
  rw [after0_3]
  frame_out
  blk_point [iblk, V, idx t0_0]

end Cert.ReferenceIdeal.Spec

end
-- ==== Proof.RefPoint.lean ====
module

public import proofs.«01_k».proof.Proof.RefResult
public import proofs.«01_k».proof.Proof.Spec
public import Idealize.ShloMosaic.Lib.Pointwise
public import Idealize.ShloMosaic.Lib.KernelVsHost

@[expose] public section

set_option maxRecDepth 16384

noncomputable section

namespace Cert.ReferenceIdeal.Spec

open Cert.ReferenceIdeal Cert.ReferenceIdeal.Gen Cert.Spec
open Idealize.ShloMosaic Idealize.ShloMosaic.TcCoe

/-! ## The reference's arrays at an index -/

/-- A normalised activation. -/
theorem hT_at (x : FVec Ideal S3x512x5120 .bf16) (g : FVec Ideal S5120 .f32) (b : Fin 3) (s : Fin 512) (l : Fin 5120) :
    hT x g (ix3 b s l) = hS (fun k => x (ix3 b s k)) (fun k => g (ix1 k)) l := by
  pointwise [hT, hS]

/-- Its axis reduces. -/
theorem red_at : S3x512x5120.Reduces [2] S3x512 := by decide +kernel

/-- The greatest magnitude of a row. -/
theorem max_at (h : FVec Ideal S3x512x5120 .f32) (b : Fin 3) (s : Fin 512) :
    Host.reduce FloatOps.maximumf (Host.absf h) (constant S_ .f32 0xFF800000#32) reducesTo_S3x512x5120_S3x512_d2 h_S_ (ix2 b s) =
      Finset.univ.fold max (Ideal.ofBits .f32 0xFF800000#32) fun k : Fin 5120 => max (h (ix3 b s k)) (-(h (ix3 b s k))) := by
  refine (congrFun (hostReduce_maximumf_eq_multiReduction (Host.absf h) 0xFF800000#32 reducesTo_S3x512x5120_S3x512_d2 h_S_ red_at (.inl rfl) rfl) (ix2 b s)).trans ?_
  pointwise
  exact congrArg (fun f => Finset.fold max (Ideal.ofBits .f32 0xFF800000#32) f Finset.univ) (funext fun k => rfl)

/-- A row's number over the greatest code. -/
theorem over_at (M : FVec Ideal S3x512 .f32) (b : Fin 3) (s : Fin 512) :
    mulf (broadcastInDim S3x512x1 ![0, 1] bcast_S3x512_S3x512x1_0_1 M)
      (broadcastInDim S3x512x1 ![] bcast_S_S3x512x1 (constant S_ .f32 0x3B124925#32)) (ix3 b s 0) = M (ix2 b s) * Ideal.ofBits .f32 0x3B124925#32 := by
  pointwise

/-- The greatest magnitude of a row over the greatest code. -/
theorem aT_at (x : FVec Ideal S3x512x5120 .bf16) (g : FVec Ideal S5120 .f32) (b : Fin 3) (s : Fin 512) :
    aT (hT x g) (ix3 b s 0) = aS (fun k => x (ix3 b s k)) (fun k => g (ix1 k)) := by
  refine (over_at _ b s).trans ?_
  rw [max_at]
  simp only [hT_at]
  rfl

/-- A word's `1`. -/
theorem ofBool_one (b : Bool) : BitVec.ofBool b = 1#1 ↔ b = true := by cases b <;> decide

/-- A small word as an integer. -/
theorem toInt_small (n : ℕ) (h : n < 1024) : (BitVec.ofNat 32 n).toInt = (n : ℤ) := by
  rw [BitVec.toInt_eq_toNat_of_lt (by rw [BitVec.toNat_ofNat]; omega), BitVec.toNat_ofNat, Nat.mod_eq_of_lt (by omega)]

/-- The word of two. -/
theorem two : Ideal.ofBits .f32 0x40000000#32 = 2 := by
  show Pow2.val (BitVec.ofNat 32 128) = 2
  rw [Pow2.val_mid 128 (by omega) (by omega)]
  norm_num
  rfl

/-- The word of 126. -/
theorem word126 : Ideal.ofBits .f32 0x42FC0000#32 = ((126 : ℝ) : EReal) := by
  have hx : ((0x42FC0000#32).extractLsb' 23 8).toNat = 133 := by decide
  have hf : ((0x42FC0000#32).extractLsb' 0 23).toNat = 8126464 := by decide
  have hs : ((0x42FC0000#32).extractLsb' 31 1 == 1#1) = false := by decide
  show Ideal.ieee 8 23 0x42FC0000#32 = _
  unfold Ideal.ieee
  simp only [hx, hf, hs]
  rw [if_neg (by omega), if_neg (by omega)]
  congr 1
  norm_num

/-- The word of the least normal number. -/
theorem word_min : Ideal.ofBits .f32 0x00800000#32 = Pow2.val 1#32 := rfl

/-- The word of infinity. -/
theorem word_top : Ideal.ofBits .f32 0x7F800000#32 = ⊤ := Pow2.val_top

/-- Adding up the words of a test counts. -/
theorem fold_count {ι : Type*} (s : Finset ι) (p : ι → Prop) [DecidablePred p] :
    (s.fold IntOp.addi 0#32 fun k => BitVec.setWidth 32 (BitVec.ofBool (decide (p k)))) = BitVec.ofNat 32 (s.filter p).card := by
  classical
  induction s using Finset.induction_on with
  | empty => rfl
  | insert a s ha ih =>
    rw [Finset.fold_insert ha, ih, Finset.filter_insert]
    by_cases h : p a
    · rw [if_pos h, Finset.card_insert_of_notMem (fun h => ha (Finset.mem_filter.mp h).1), decide_eq_true h, Nat.add_comm, BitVec.ofNat_add]
      rfl
    · rw [if_neg h, decide_eq_false h]
      show 0#32 + _ = _
      rw [BitVec.zero_add]

/-- How many powers of two are at most `a`. -/
theorem cntT_at (a : FVec Ideal S3x512x1 .f32) (b : Fin 3) (s : Fin 512) :
    cntT a (ix2 b s) = BitVec.ofNat 32 (Pow2.count (a (ix3 b s 0))) := by
  pointwise [cntT, powsT]
  rw [two, word126]
  have e : ∀ k : Fin 254, (FloatOps.sitofp FTy.f32 (BitVec.ofNat 32 k.val) : Idealize.ShloMosaic.Ideal .f32) = ((k.val : ℝ) : EReal) := by
    intro k
    show (((BitVec.ofNat 32 k.val).toInt : ℝ) : EReal) = _
    rw [toInt_small k.val (by omega), Int.cast_natCast]
  simp only [e, ← EReal.coe_sub]
  rw [fold_count]
  rfl

/-- The exponent. -/
theorem eT_at (a : FVec Ideal S3x512x1 .f32) (b : Fin 3) (s : Fin 512) :
    eT a (ix3 b s 0) = Pow2.expo (a (ix3 b s 0)) := by
  pointwise [eT, Pow2.expo]
  rw [cntT_at, word_min, word_top]
  unfold Scalar.select
  refine if_congr ?_ rfl rfl
  show (BitVec.ofBool _ ||| BitVec.ofBool _) = 1#1 ↔ _
  by_cases h1 : a (ix3 b s 0) < Pow2.val 1#32 <;> by_cases h2 : a (ix3 b s 0) = ⊤ <;> simp [h1, h2]

/-- Two to an exponent. -/
theorem pT_at (e : IVec S3x512x1 32) (j : S3x512x1.Idx) : pT e j = Pow2.powOf (e j) := by
  pointwise [pT, Pow2.powOf]
  rw [two, word_top]
  unfold Scalar.select
  refine if_congr ?_ rfl (if_congr ?_ rfl rfl)
  · show BitVec.ofBool (BitVec.slt 127#32 (e j)) = 1#1 ↔ _
    rw [BitVec.slt_eq_decide, ofBool_one]
    simp
  · show BitVec.ofBool (BitVec.slt (e j) 4294967170#32) = 1#1 ↔ _
    rw [BitVec.slt_eq_decide, ofBool_one]
    simp

/-- The scaled and clipped activations. -/
theorem yT_at (h : FVec Ideal S3x512x5120 .f32) (p : FVec Ideal S3x512x1 .f32) (b : Fin 3) (s : Fin 512) (l : Fin 5120) :
    yT h p (ix3 b s l) = min (Ideal.ofBits .f32 0x43E00000#32) (max (Ideal.ofBits .f32 0xC3E00000#32) (h (ix3 b s l) * p (ix3 b s 0))) := by
  pointwise [yT]

/-- The product with both scales. -/
theorem tT_at (acc : FVec Ideal S1536x7168 .f32) (sc : FVec Ideal S3x512x1 .f32) (ws : FVec Ideal S7168 .f32) (b : Fin 3) (s : Fin 512) (n : Fin 7168) :
    tT acc sc ws (ix3 b s n) = acc (ix2 ⟨512 * b.val + s.val, by omega⟩ n) * sc (ix3 b s 0) * ws (ix1 n) := by
  pointwise [tT]
  simp only [Nat.mul_comm b.val 512]

/-- An angle. -/
theorem angsT_at (pos : IVec S3x512 32) (b : Fin 3) (s : Fin 512) (l : Fin 128) :
    angsT pos (ix4 b s 0 l) = angS (pos (ix2 b s)) (half l) := by
  pointwise [angsT, angT, freqT, angS]
  have e : ∀ n : ℕ, n < 128 → (FloatOps.sitofp FTy.f32 (BitVec.ofNat 32 n) : Idealize.ShloMosaic.Ideal .f32) = ((n : ℝ) : EReal) := by
    intro n hn
    show (((BitVec.ofNat 32 n).toInt : ℝ) : EReal) = _
    rw [toInt_small n (by omega), Int.cast_natCast]
  by_cases h : l.val < 64
  · rw [dif_pos h, e _ (by omega), mul_comm (Ideal.ofBits FTy.f32 1073741824#32)]
    have e2 : (half l).val = l.val := Nat.mod_eq_of_lt h
    rw [e2]
    rfl
  · rw [dif_neg h, e _ (by omega), mul_comm (Ideal.ofBits FTy.f32 1073741824#32)]
    have e2 : (half l).val = l.val - 64 := by show l.val % 64 = l.val - 64; omega
    rw [e2]
    rfl

/-- A lane of a head of `q`. -/
theorem q0T_at (t : FVec Ideal S3x512x7168 .f32) (b : Fin 3) (s : Fin 512) (h : Fin 40) (l : Fin 128) :
    q0T t (ix4 b s h l) = t (ix3 b s ⟨128 * h.val + l.val, by omega⟩) := by
  pointwise [q0T]
  simp only [Nat.mul_comm h.val 128]

/-- A lane of a head of `k`. -/
theorem k0T_at (t : FVec Ideal S3x512x7168 .f32) (b : Fin 3) (s : Fin 512) (h : Fin 8) (l : Fin 128) :
    k0T t (ix4 b s h l) = t (ix3 b s ⟨5120 + (128 * h.val + l.val), by omega⟩) := by
  pointwise [k0T]
  simp only [Nat.mul_comm h.val 128]

/-- A lane of a head of `v`. -/
theorem v0T_at (t : FVec Ideal S3x512x7168 .f32) (b : Fin 3) (s : Fin 512) (h : Fin 8) (l : Fin 128) :
    v0T t (ix4 b s h l) = t (ix3 b s ⟨6144 + (128 * h.val + l.val), by omega⟩) := by
  pointwise [v0T]
  simp only [Nat.mul_comm h.val 128]

/-- A lane of a roped head of `q`. -/
theorem ropeQ_at (t : FVec Ideal S3x512x40x128 .f32) (pos : IVec S3x512 32) (b : Fin 3) (s : Fin 512) (h : Fin 40) (l : Fin 128) :
    ropeQ t (angsT pos) (ix4 b s h l) = ropeS (fun l => t (ix4 b s h l)) (pos (ix2 b s)) l := by
  pointwise [ropeQ, ropeS]
  rw [angsT_at]
  congr 2
  by_cases h1 : l.val < 64
  · rw [dif_pos h1, if_pos h1]
    have e : (turn l) = ⟨64 + l.val, by omega⟩ := Fin.ext (by show (l.val + 64) % 128 = 64 + l.val; omega)
    rw [e]
  · rw [dif_neg h1, if_neg h1]
    have e : (turn l) = ⟨l.val - 64, by omega⟩ := Fin.ext (by show (l.val + 64) % 128 = l.val - 64; omega)
    rw [e]

/-- A lane of a roped head of `k`. -/
theorem ropeK_at (t : FVec Ideal S3x512x8x128 .f32) (pos : IVec S3x512 32) (b : Fin 3) (s : Fin 512) (h : Fin 8) (l : Fin 128) :
    ropeK t (angsT pos) (ix4 b s h l) = ropeS (fun l => t (ix4 b s h l)) (pos (ix2 b s)) l := by
  pointwise [ropeK, ropeS]
  rw [angsT_at]
  congr 2
  by_cases h1 : l.val < 64
  · rw [dif_pos h1, if_pos h1]
    have e : (turn l) = ⟨64 + l.val, by omega⟩ := Fin.ext (by show (l.val + 64) % 128 = 64 + l.val; omega)
    rw [e]
  · rw [dif_neg h1, if_neg h1]
    have e : (turn l) = ⟨l.val - 64, by omega⟩ := Fin.ext (by show (l.val + 64) % 128 = l.val - 64; omega)
    rw [e]

/-- A code the host's call leaves. -/
theorem pay1_at (y : FVec Ideal S1536x5120 .f32) (r : Fin 1536) (l : Fin 5120) : (k0_pay1 (F := Ideal) y : Vec Ideal S1536x5120 .fp8e4m3) (ix2 r l) = (show EReal from y (ix2 r l)) := by
  pointwise [k0_pay1]

/-- An element of the product. -/
theorem pay2_at (y : FVec Ideal S1536x5120 .f32) (w : FVec Ideal S5120x7168 .fp8e4m3) (r : Fin 1536) (n : Fin 7168) :
    k0_pay2 y w (ix2 r n) = ∑ k : Fin 5120, y (ix2 r k) * w (ix2 k n) := by
  pointwise [k0_pay2, k0_pay1]

/-- Rows of all the tokens. -/
theorem flat_at {e : EltTy} (y : Vec Ideal S3x512x5120 e) (b : Fin 3) (s : Fin 512) (l : Fin 5120) :
    shapeCast S1536x5120 y shapeCasts_S3x512x5120_S1536x5120 (ix2 ⟨512 * b.val + s.val, by omega⟩ l) = y (ix3 b s l) := by
  pointwise

end Cert.ReferenceIdeal.Spec

end
-- ==== Proof.RefFinal.lean ====
module

public import proofs.«01_k».proof.Proof.RefPoint

@[expose] public section

set_option maxRecDepth 16384

noncomputable section

namespace Cert.ReferenceIdeal.Spec

open Cert.ReferenceIdeal Cert.ReferenceIdeal.Gen Cert.Spec
open Idealize.ShloMosaic Idealize.ShloMosaic.TcCoe

/-! ## The reference's results at an index -/

variable (m : (ℓ : Loc nD τ sig) → Buf (Elt Ideal) ℓ)

/-- The activations. -/
abbrev aX (c : Dev nD) : FVec Ideal S3x512x5120 .bf16 := m ((c : Thread nD τ).loc main_arg0)
/-- The gain. -/
abbrev aG (c : Dev nD) : FVec Ideal S5120 .f32 := m ((c : Thread nD τ).loc main_arg1)
/-- The positions. -/
abbrev aP (c : Dev nD) : IVec S3x512 32 := m ((c : Thread nD τ).loc main_arg2)
/-- The weights. -/
abbrev aW (c : Dev nD) : FVec Ideal S5120x7168 .fp8e4m3 := m ((c : Thread nD τ).loc main_arg3)
/-- The column scales. -/
abbrev aS' (c : Dev nD) : FVec Ideal S7168 .f32 := m ((c : Thread nD τ).loc main_arg4)

/-- A row of the activations. -/
def row (c : Dev nD) (b : Fin 3) (s : Fin 512) : Fin 5120 → EReal := fun k => aX m c (ix3 b s k)
/-- The gain's elements. -/
def gain (c : Dev nD) : Fin 5120 → EReal := fun k => aG m c (ix1 k)
/-- The weights' elements. -/
def wts (c : Dev nD) : Fin 5120 → Fin 7168 → EReal := fun k n => aW m c (ix2 k n)
/-- The column scales' elements. -/
def cols (c : Dev nD) : Fin 7168 → EReal := fun n => aS' m c (ix1 n)

/-- A row's scale. -/
theorem sc_at (c : Dev nD) (b : Fin 3) (s : Fin 512) : (V m c main_v47 : FVec Ideal S3x512x1 .f32) (ix3 b s 0) = scS (row m c b s) (gain m c) := by
  rw [V_scale, pT_at, eT_at, aT_at]
  exact (Pow2.scale_eq _).1.symm

/-- A code before its cast. -/
theorem y_at (c : Dev nD) (b : Fin 3) (s : Fin 512) (l : Fin 5120) :
    (V m c main_v61 : FVec Ideal S1536x5120 .f32) (ix2 ⟨512 * b.val + s.val, by omega⟩ l) = cdS (row m c b s) (gain m c) l := by
  rw [V_y]
  refine (flat_at (e := .f32) _ b s l).trans ?_
  rw [yT_at, pT_at, hT_at]
  show min _ (max _ (_ * Pow2.powOf (-(eT _ (ix3 b s 0))))) = _
  rw [eT_at, aT_at]
  unfold cdS invS
  rw [(Pow2.scale_eq _).2]
  rfl

/-- An element of the product. -/
theorem acc_at (c : Dev nD) (b : Fin 3) (s : Fin 512) (n : Fin 7168) :
    (k0_pay2 (F := Ideal) (V m c main_v61) (m ((c : Thread nD τ).loc main_arg3)) : FVec Ideal S1536x7168 .f32) (ix2 ⟨512 * b.val + s.val, by omega⟩ n) =
      accS (row m c b s) (gain m c) (fun k => wts m c k n) := by
  refine (pay2_at _ _ _ _).trans ?_
  unfold accS
  exact Finset.sum_congr rfl fun k _ => by rw [y_at]; rfl

/-- An element of the product with both scales. -/
theorem t_at (c : Dev nD) (b : Fin 3) (s : Fin 512) (n : Fin 7168) :
    tT (k0_pay2 (F := Ideal) (V m c main_v61) (m ((c : Thread nD τ).loc main_arg3))) (V m c main_v47) (aS' m c) (ix3 b s n) =
      colS (row m c b s) (gain m c) (wts m c) (cols m c) n.val := by
  rw [tT_at, acc_at, sc_at]
  have e : (⟨n.val % 7168, Nat.mod_lt _ (by decide)⟩ : Fin 7168) = n := Fin.ext (Nat.mod_eq_of_lt n.isLt)
  unfold colS tS
  rw [e]
  rfl

/-! ## The results after the run -/

/-- The contents of the buffers when the product is done. -/
abbrev after1 (c : Dev nD) : Valuation τ sig (Elt Ideal) :=
  Pipeline.withArrays spec0 c (V0 m c) fun w => (dats m 0 c).arrAt w (cfgs 0).N

theorem after1_codes (c : Dev nD) : (after1 m c (Proc.devRef .tc main_v62_0) : FVec Ideal S1536x5120 .fp8e4m3) = k0_pay1 (F := Ideal) (V m c main_v61) :=
  (Pipeline.withArrays_arr spec0 (by decide) c (V0 m c) (fun w => (dats m 0 c).arrAt w (cfgs 0).N) 2).trans (final_codes m c)

theorem after1_acc (c : Dev nD) : (after1 m c (Proc.devRef .tc main_v62_1) : FVec Ideal S1536x7168 .f32) =
    k0_pay2 (F := Ideal) (V m c main_v61) (m ((c : Thread nD τ).loc main_arg3)) :=
  (Pipeline.withArrays_arr spec0 (by decide) c (V0 m c) (fun w => (dats m 0 c).arrAt w (cfgs 0).N) 3).trans (final_acc m c)

theorem after1_scale (c : Dev nD) : (after1 m c (Proc.devRef .tc main_v47) : FVec Ideal S3x512x1 .f32) = V m c main_v47 :=
  Pipeline.withArrays_of_ne _ c (V0 m c) _ main_v47 (by exact (by decide : ∀ w, Pipeline.arrRef spec0 w ≠ main_v47))

theorem after1_arg4 (c : Dev nD) : (after1 m c (Proc.devRef .tc main_arg4) : FVec Ideal S7168 .f32) = aS' m c :=
  (Pipeline.withArrays_of_ne _ c (V0 m c) _ main_arg4 (by exact (by decide : ∀ w, Pipeline.arrRef spec0 w ≠ main_arg4))).trans (V_main_arg4 m c)

theorem after1_arg2 (c : Dev nD) : (after1 m c (Proc.devRef .tc main_arg2) : IVec S3x512 32) = aP m c :=
  (Pipeline.withArrays_of_ne _ c (V0 m c) _ main_arg2 (by exact (by decide : ∀ w, Pipeline.arrRef spec0 w ≠ main_arg2))).trans (V_main_arg2 m c)

/-- What the lines after the product leave. -/
theorem tail_eq (c : Dev nD) (b : Ref sig .tc) : Pipeline.afterTail₀ cfgs (dats m) 0 (V0 m) [hostOps1] c b =
    StableHlo.after hostOps1 (after1 m c) (Proc.devRef .tc b) := by
  unfold Pipeline.afterTail₀
  rw [List.flatten_cons, List.flatten_nil, List.append_nil]

/-- An element of `q`. -/
theorem q_at (c : Dev nD) (b : Fin 3) (s : Fin 512) (h : Fin 40) (l : Fin 128) :
    (Pipeline.afterTail₀ cfgs (dats m) 0 (V0 m) [hostOps1] c main_v106 : FVec Ideal S3x512x40x128 .bf16) (ix4 b s h l) =
      headS (row m c b s) (gain m c) (wts m c) (cols m c) (aP m c (ix2 b s)) h.val l := by
  rw [tail_eq, e_q, after1_acc, after1_scale, after1_arg4, after1_arg2, ropeQ_at]
  exact congrArg (fun u => ropeS u (aP m c (ix2 b s)) l) (funext fun l => by rw [q0T_at, t_at])

/-- An element of `k`. -/
theorem k_at (c : Dev nD) (b : Fin 3) (s : Fin 512) (h : Fin 8) (l : Fin 128) :
    (Pipeline.afterTail₀ cfgs (dats m) 0 (V0 m) [hostOps1] c main_v116 : FVec Ideal S3x512x8x128 .bf16) (ix4 b s h l) =
      headS (row m c b s) (gain m c) (wts m c) (cols m c) (aP m c (ix2 b s)) (40 + h.val) l := by
  rw [tail_eq, e_k, after1_acc, after1_scale, after1_arg4, after1_arg2, ropeK_at]
  refine congrArg (fun u => ropeS u (aP m c (ix2 b s)) l) (funext fun l => ?_)
  rw [k0T_at, t_at]
  exact congrArg (colS _ _ _ _) (show 5120 + (128 * h.val + l.val) = 128 * (40 + h.val) + l.val by omega)

/-- The cast of `v` keeps the numbers. -/
theorem trunc_at (t : FVec Ideal S3x512x8x128 .f32) (j : S3x512x8x128.Idx) :
    (truncf .bf16 t bitsLt_bf16_f32 : FVec Ideal S3x512x8x128 .bf16) j = (t j : EReal) := rfl

/-- An element of `v`. -/
theorem v_at (c : Dev nD) (b : Fin 3) (s : Fin 512) (h : Fin 8) (l : Fin 128) :
    (Pipeline.afterTail₀ cfgs (dats m) 0 (V0 m) [hostOps1] c main_v117 : FVec Ideal S3x512x8x128 .bf16) (ix4 b s h l) =
      colS (row m c b s) (gain m c) (wts m c) (cols m c) (128 * (48 + h.val) + l.val) := by
  rw [tail_eq, e_v, after1_acc, after1_scale, after1_arg4]
  rw [trunc_at, v0T_at, t_at]
  exact congrArg (colS _ _ _ _) (show 6144 + (128 * h.val + l.val) = 128 * (48 + h.val) + l.val by omega)

/-- The codes as three sequences. -/
theorem unflat_at (y : Vec Ideal S1536x5120 .fp8e4m3) (b : Fin 3) (s : Fin 512) (l : Fin 5120) :
    shapeCast S3x512x5120 y shapeCasts_S1536x5120_S3x512x5120 (ix3 b s l) = y (ix2 ⟨512 * b.val + s.val, by omega⟩ l) := by
  pointwise
  simp only [Nat.mul_comm b.val 512]

/-- A code. -/
theorem codes_at (c : Dev nD) (b : Fin 3) (s : Fin 512) (l : Fin 5120) :
    (Pipeline.afterTail₀ cfgs (dats m) 0 (V0 m) [hostOps1] c main_v63 : FVec Ideal S3x512x5120 .fp8e4m3) (ix3 b s l) =
      cdS (row m c b s) (gain m c) l := by
  rw [tail_eq, e_codes, after1_codes]
  refine (unflat_at _ b s l).trans ((pay1_at _ _ _).trans ?_)
  exact y_at m c b s l

/-- A scale. -/
theorem scale_at (c : Dev nD) (b : Fin 3) (s : Fin 512) :
    (Pipeline.afterTail₀ cfgs (dats m) 0 (V0 m) [hostOps1] c main_v47 : FVec Ideal S3x512x1 .f32) (ix3 b s 0) =
      scS (row m c b s) (gain m c) := by
  rw [tail_eq, e_scale, after1_scale, sc_at]

/-- The run with the five results named. -/
theorem result (ρ : Dev nD → PrngReg) : θ_run defs (onTc (τ := τ) (main (F := Ideal))) ⟨m, fun _ => 0, ρ⟩ (fun r => ∀ c : Dev nD,
      r.2.mem ((c.tc : Thread nD τ).loc main_v106) = Pipeline.afterTail₀ cfgs (dats m) 0 (V0 m) [hostOps1] c main_v106
      ∧ r.2.mem ((c.tc : Thread nD τ).loc main_v116) = Pipeline.afterTail₀ cfgs (dats m) 0 (V0 m) [hostOps1] c main_v116
      ∧ r.2.mem ((c.tc : Thread nD τ).loc main_v117) = Pipeline.afterTail₀ cfgs (dats m) 0 (V0 m) [hostOps1] c main_v117
      ∧ r.2.mem ((c.tc : Thread nD τ).loc main_v63) = Pipeline.afterTail₀ cfgs (dats m) 0 (V0 m) [hostOps1] c main_v63
      ∧ r.2.mem ((c.tc : Thread nD τ).loc main_v47) = Pipeline.afterTail₀ cfgs (dats m) 0 (V0 m) [hostOps1] c main_v47) :=
  (θ_run defs _ _).mono (fun _ h c => ⟨(h c).2 main_v106 (Pipeline.mem_restRefs_of main_v106 (by decide) (by decide)),
    (h c).2 main_v116 (Pipeline.mem_restRefs_of main_v116 (by decide) (by decide)),
    (h c).2 main_v117 (Pipeline.mem_restRefs_of main_v117 (by decide) (by decide)),
    (h c).2 main_v63 (Pipeline.mem_restRefs_of main_v63 (by decide) (by decide)),
    (h c).2 main_v47 (Pipeline.mem_restRefs_of main_v47 (by decide) (by decide))⟩) (run_main m ρ)

end Cert.ReferenceIdeal.Spec

end
-- ==== Proof.Algebraic.lean ====
module

public import proofs.«01_k».proof.Defs
public import proofs.«01_k».proof.Proof.KernelResult
public import proofs.«01_k».proof.Proof.RefFinal

@[expose] public section

set_option maxRecDepth 16384

noncomputable section

namespace Cert.Algebraic

open Idealize.ShloMosaic Idealize.ShloMosaic.TcCoe Idealize.SL.Sem Cert.Spec

/-! ## The kernel's results are the reference's -/

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The contents of a buffer after the kernel's program. -/
abbrev kres (m : KMem) (c : Dev Cert.KernelIdeal.nD) (b : Ref Cert.KernelIdeal.sig .tc) :=
  Pipeline.afterTail₀ Cert.KernelIdeal.cfgs (Cert.KernelIdeal.Val.dats m) 0 (Cert.KernelIdeal.Gen.V0 m) [Cert.KernelIdeal.Gen.hostOps1] c b

/-- The contents of a buffer after the reference's program. -/
abbrev rres (m : RMem) (c : Dev Cert.ReferenceIdeal.nD) (b : Ref Cert.ReferenceIdeal.sig .tc) :=
  Pipeline.afterTail₀ Cert.ReferenceIdeal.cfgs (Cert.ReferenceIdeal.Gen.dats m) 0 (Cert.ReferenceIdeal.Gen.V0 m) [Cert.ReferenceIdeal.Gen.hostOps1] c b

section Same

variable (m : KMem) (m' : RMem) (c : Dev Cert.KernelIdeal.nD)
  (h0 : Cert.ReferenceIdeal.Spec.row m' c = Cert.KernelIdeal.Val.row m c)
  (h1 : Cert.ReferenceIdeal.Spec.gain m' c = Cert.KernelIdeal.Val.gr m c)
  (h2 : (fun b s => Cert.ReferenceIdeal.Spec.aP m' c (ix2 b s)) = Cert.KernelIdeal.Val.pos m c)
  (h3 : Cert.ReferenceIdeal.Spec.wts m' c = Cert.KernelIdeal.Val.wr m c)
  (h4 : Cert.ReferenceIdeal.Spec.cols m' c = Cert.KernelIdeal.Val.sr m c)

include h0 h1 h2 h3 h4 in
theorem same_q : (rres m' c Cert.ReferenceIdeal.main_v106 : FVec Ideal Cert.KernelIdeal.S3x512x40x128 .bf16) = kres m c Cert.KernelIdeal.main_v4 := by
  funext i
  obtain ⟨b, s, h, l, rfl⟩ : ∃ (b : Fin 3) (s : Fin 512) (h : Fin 40) (l : Fin 128), i = ix4 b s h l :=
    ⟨i 0, i 1, i 2, i 3, by funext a; match a with | ⟨0, _⟩ => rfl | ⟨1, _⟩ => rfl | ⟨2, _⟩ => rfl | ⟨3, _⟩ => rfl⟩
  refine (Cert.ReferenceIdeal.Spec.q_at m' c b s h l).trans (Eq.trans ?_ (Cert.KernelIdeal.Val.q_at m c b s h l).symm)
  rw [h0, h1, h3, h4, ← h2]

include h0 h1 h2 h3 h4 in
theorem same_k : (rres m' c Cert.ReferenceIdeal.main_v116 : FVec Ideal Cert.KernelIdeal.S3x512x8x128 .bf16) = kres m c Cert.KernelIdeal.main_v5 := by
  funext i
  obtain ⟨b, s, h, l, rfl⟩ : ∃ (b : Fin 3) (s : Fin 512) (h : Fin 8) (l : Fin 128), i = ix4 b s h l :=
    ⟨i 0, i 1, i 2, i 3, by funext a; match a with | ⟨0, _⟩ => rfl | ⟨1, _⟩ => rfl | ⟨2, _⟩ => rfl | ⟨3, _⟩ => rfl⟩
  refine (Cert.ReferenceIdeal.Spec.k_at m' c b s h l).trans (Eq.trans ?_ (Cert.KernelIdeal.Val.k_at m c b s h l).symm)
  rw [h0, h1, h3, h4, ← h2]

include h0 h1 h3 h4 in
theorem same_v : (rres m' c Cert.ReferenceIdeal.main_v117 : FVec Ideal Cert.KernelIdeal.S3x512x8x128 .bf16) = kres m c Cert.KernelIdeal.main_v6 := by
  funext i
  obtain ⟨b, s, h, l, rfl⟩ : ∃ (b : Fin 3) (s : Fin 512) (h : Fin 8) (l : Fin 128), i = ix4 b s h l :=
    ⟨i 0, i 1, i 2, i 3, by funext a; match a with | ⟨0, _⟩ => rfl | ⟨1, _⟩ => rfl | ⟨2, _⟩ => rfl | ⟨3, _⟩ => rfl⟩
  refine (Cert.ReferenceIdeal.Spec.v_at m' c b s h l).trans (Eq.trans ?_ (Cert.KernelIdeal.Val.v_at m c b s h l).symm)
  rw [h0, h1, h3, h4]

include h0 h1 in
theorem same_codes : (rres m' c Cert.ReferenceIdeal.main_v63 : FVec Ideal Cert.KernelIdeal.S3x512x5120 .fp8e4m3) = kres m c Cert.KernelIdeal.main_v7 := by
  funext i
  obtain ⟨b, s, l, rfl⟩ : ∃ (b : Fin 3) (s : Fin 512) (l : Fin 5120), i = ix3 b s l :=
    ⟨i 0, i 1, i 2, by funext a; match a with | ⟨0, _⟩ => rfl | ⟨1, _⟩ => rfl | ⟨2, _⟩ => rfl⟩
  refine (Cert.ReferenceIdeal.Spec.codes_at m' c b s l).trans (Eq.trans ?_ (Cert.KernelIdeal.Val.codes_at m c b s l).symm)
  rw [h0, h1]

include h0 h1 in
theorem same_scale : (rres m' c Cert.ReferenceIdeal.main_v47 : FVec Ideal Cert.KernelIdeal.S3x512x1 .f32) = kres m c Cert.KernelIdeal.main_v8 := by
  funext i
  obtain ⟨b, s, rfl⟩ : ∃ (b : Fin 3) (s : Fin 512), i = ix3 b s 0 :=
    ⟨i 0, i 1, by funext a; match a with | ⟨0, _⟩ => rfl | ⟨1, _⟩ => rfl | ⟨2, _⟩ => exact Subsingleton.elim (α := Fin 1) _ _⟩
  refine (Cert.ReferenceIdeal.Spec.scale_at m' c b s).trans (Eq.trans ?_ (Cert.KernelIdeal.Val.scale_res m c b s).symm)
  rw [h0, h1]

end Same

/-- The value claim. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => kres m c Cert.KernelIdeal.main_v4, fun c => kres m c Cert.KernelIdeal.main_v5, fun c => kres m c Cert.KernelIdeal.main_v6,
    fun c => kres m c Cert.KernelIdeal.main_v7, fun c => kres m c Cert.KernelIdeal.main_v8, ?_, ?_⟩
  · refine (θ_run _ _ _).mono (fun r h c => ?_) (θ_run_and (Cert.KernelIdeal.Val.result m g) (Cert.KernelIdeal.Hand.frame m g))
    exact ⟨(h.1 c).1, (h.1 c).2.1, (h.1 c).2.2.1, (h.1 c).2.2.2.1, (h.1 c).2.2.2.2, h.2.1 c⟩
  · refine (θ_run _ _ _).mono (fun r h c => ?_) (θ_run_and (Cert.ReferenceIdeal.Spec.result m' g') (Cert.ReferenceIdeal.Gen.frame m' g'))
    obtain ⟨a0, a1, a2, a3, a4⟩ := hargs c
    have h0 : Cert.ReferenceIdeal.Spec.row m' c = Cert.KernelIdeal.Val.row m c := by
      funext b s k
      exact congrFun a0 (ix3 b s k)
    have h1 : Cert.ReferenceIdeal.Spec.gain m' c = Cert.KernelIdeal.Val.gr m c := by
      funext k
      exact congrFun a1 (ix1 k)
    have h2 : (fun b s => Cert.ReferenceIdeal.Spec.aP m' c (ix2 b s)) = Cert.KernelIdeal.Val.pos m c := by
      funext b s
      exact congrFun a2 (ix2 b s)
    have h3 : Cert.ReferenceIdeal.Spec.wts m' c = Cert.KernelIdeal.Val.wr m c := by
      funext k n
      exact congrFun a3 (ix2 k n)
    have h4 : Cert.ReferenceIdeal.Spec.cols m' c = Cert.KernelIdeal.Val.sr m c := by
      funext n
      exact congrFun a4 (ix1 n)
    exact ⟨(h.1 c).1.trans (same_q m m' c h0 h1 h2 h3 h4), (h.1 c).2.1.trans (same_k m m' c h0 h1 h2 h3 h4),
      (h.1 c).2.2.1.trans (same_v m m' c h0 h1 h3 h4), (h.1 c).2.2.2.1.trans (same_codes m m' c h0 h1),
      (h.1 c).2.2.2.2.trans (same_scale m m' c h0 h1), h.2.1 c⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Lib.Bf16Pair
public import Idealize.ShloMosaic.Adequacy
public import Idealize.ShloMosaic.Init
public import proofs.«01_k».proof.Proof.KernelFrame
public import proofs.«01_k».proof.Proof.KernelIdealFrame
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m g _ => Cert.Kernel.Hand.frame m g,
    fun m g _ => Cert.KernelIdeal.Hand.frame m g,
    fun m g _ => Cert.ReferenceIdeal.Gen.frame m g,
    ⟨IdealRules.bf16_pair.packStatement _, IdealRules.bf16_pair.statement _ _⟩,
    Cert.Algebraic.algebraic⟩

end Cert.Proof

end
